-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv" .f32 0x39000400#32 ((1 / 8191 : ℝ) : EReal)
  ∧ IdealRules.named_const.Statement Cert.KernelIdeal.κ "neg_inv" .f32 0xB9000400#32 ((-1 / 8191 : ℝ) : EReal)

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S8192x128 : Shape := ⟨2, ![8192, 128]⟩
abbrev S8192x6 : Shape := ⟨2, ![8192, 6]⟩
abbrev S128x128 : Shape := ⟨2, ![128, 128]⟩
abbrev S128 : Shape := ⟨1, ![128]⟩
abbrev S_ : Shape := ⟨0, ![]⟩

class Facts : Prop where
  bcast_S_S8192x128 : S_.BroadcastsInDim S8192x128 (![] : Fin 0 → Fin S8192x128.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S8192x128 .f32) (main_arg1 : FVec F S8192x6 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S8192x128 1 × IVec S128x128 1 × IVec S128 1 × IVec S128x128 1 × IVec S128 1 × IVec S128x128 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S128 .f32 := Host.absf main_arg5
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  let main_v15 : FVec F S128x128 .f32 := Host.absf main_arg6
  let main_cst_4 : FVec F S_ .f32 := constant S_ .f32 0x7F800000#32
  let main_v16 : FVec F S128x128 .f32 := broadcastInDim S128x128 ![] bcast_S_S128x128 main_cst_4
  let main_v17 : IVec S128x128 1 := cmpf .olt main_v15 main_v16
  (main_v2, main_v5, main_v8, main_v11, main_v14, main_v17)
-- ==== Kernel.lean ====
abbrev S8192x128 : Shape := ⟨2, ![8192, 128]⟩
abbrev S8192x6 : Shape := ⟨2, ![8192, 6]⟩
abbrev S128x128 : Shape := ⟨2, ![128, 128]⟩
abbrev S128 : Shape := ⟨1, ![128]⟩
abbrev S1x128 : Shape := ⟨2, ![1, 128]⟩
abbrev S4 : Shape := ⟨1, ![4]⟩
abbrev S1 : Shape := ⟨1, ![1]⟩
abbrev S_ : Shape := ⟨0, ![]⟩
abbrev S2048x128 : Shape := ⟨2, ![2048, 128]⟩
abbrev S256x128 : Shape := ⟨2, ![256, 128]⟩
abbrev S2048x256 : Shape := ⟨2, ![2048, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x6, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S8192x128, .f32⟩
  | .local _ .vmem, ⟨0, _⟩ => ⟨S128x128, .f32⟩
  | .local _ .vmem, ⟨1, _⟩ => ⟨S1x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8192x128, .f32⟩
  | .local _ .vmem, ⟨7, _⟩ => ⟨S8192x128, .bf16⟩
  | .local _ .vmem, ⟨8, _⟩ => ⟨S8192x128, .bf16⟩
  | .local _ .vmem, ⟨9, _⟩ => ⟨S8192x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv" => some ((1 / 8191 : ℝ) : EReal)
  | "neg_inv" => some ((-1 / 8191 : ℝ) : EReal)
  | _ => none
-- ==== ReferenceIdeal.lean ====
abbrev S8192x128 : Shape := ⟨2, ![8192, 128]⟩
abbrev S8192x6 : Shape := ⟨2, ![8192, 6]⟩
abbrev S128x128 : Shape := ⟨2, ![128, 128]⟩
abbrev S128 : Shape := ⟨1, ![128]⟩
abbrev S1x128 : Shape := ⟨2, ![1, 128]⟩
abbrev S128x8192 : Shape := ⟨2, ![128, 8192]⟩
abbrev S8192x8192 : Shape := ⟨2, ![8192, 8192]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x6, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S8192x128, .f32⟩
  | .hbm, ⟨10, _⟩ => ⟨S1x128, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S8192x8192, .i32⟩
  | .hbm, ⟨16, _⟩ => ⟨S8192x8192, .i32⟩
  | .hbm, ⟨17, _⟩ => ⟨S_, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S128x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S_, .f32⟩
  | .hbm, ⟨33, _⟩ => ⟨S8192x128, .f32⟩
  | .hbm, ⟨34, _⟩ => ⟨S8192x128, .f32⟩
  | .hbm, ⟨35, _⟩ => ⟨S128x128, .f32⟩
  | .hbm, ⟨36, _⟩ => ⟨S8192x128, .f32⟩
  | .hbm, ⟨37, _⟩ => ⟨S1x128, .f32⟩
  | .hbm, ⟨38, _⟩ => ⟨S8192x128, .f32⟩
  | .hbm, ⟨39, _⟩ => ⟨S8192x128, .f32⟩
  | .hbm, ⟨40, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.KernelRun.lean ====
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

/-!
  One execution of the kernel's body: what every buffer holds before, and after.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The buffer behind `M`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The nodes and the result, left in HBM. -/
abbrev aN : Memref sig .tc .hbm S8192x128 .f32 := Memref.whole main_arg0
/-- The result array. -/
abbrev aO : Memref sig .tc .hbm S8192x128 .f32 := Memref.whole main_v3
/-- The staged weights and biases. -/
abbrev aW2 : Memref sig .tc .vmem S128x128 .f32 := Memref.whole cc0_stg0_0
/-- The second bias, as staged. -/
abbrev aB2 : Memref sig .tc .vmem S1x128 .f32 := Memref.whole cc0_stg1_0
/-- The third weight, as staged. -/
abbrev aW3 : Memref sig .tc .vmem S128x128 .f32 := Memref.whole cc0_stg2_0
/-- The third bias, as staged. -/
abbrev aB3 : Memref sig .tc .vmem S1x128 .f32 := Memref.whole cc0_stg3_0
/-- The fifth weight, as staged. -/
abbrev aW5 : Memref sig .tc .vmem S128x128 .f32 := Memref.whole cc0_stg4_0
/-- The fifth bias, as staged. -/
abbrev aB5 : Memref sig .tc .vmem S1x128 .f32 := Memref.whole cc0_stg5_0
/-- The scratch buffers: the nodes, the scaled rows, the squared lengths, the result. -/
abbrev sN : Memref sig .tc .vmem S8192x128 .f32 := Memref.whole cc0_scratch0
/-- The scratch of scaled rows. -/
abbrev sD : Memref sig .tc .vmem S8192x128 .bf16 := Memref.whole cc0_scratch1
/-- The scratch of squared lengths. -/
abbrev sC : Memref sig .tc .vmem S8192x128 .bf16 := Memref.whole cc0_scratch2
/-- The scratch the result blocks leave from. -/
abbrev sO : Memref sig .tc .vmem S8192x128 .f32 := Memref.whole cc0_scratch3

/-- A transfer's counter at zero. -/
abbrev cell (c : Dev nD) (k : Fin 14) : sProp 𝕄 := semVal ((c : Thread nD τ), SemLoc.dma k) 0

/-- The kernel's body on its operands. -/
abbrev body0 : Prog (TpuEff nD τ sig (Elt F) Λ₀ .tc) PUnit :=
  cc0__body aN (Memref.isWhole_whole _) aW2 (Memref.isWhole_whole _) aB2 (Memref.isWhole_whole _) aW3 (Memref.isWhole_whole _)
    aB3 (Memref.isWhole_whole _) aW5 (Memref.isWhole_whole _) aB5 (Memref.isWhole_whole _) aO (Memref.isWhole_whole _)
    sN (Memref.isWhole_whole _) sD (Memref.isWhole_whole _) sC (Memref.isWhole_whole _) sO (Memref.isWhole_whole _) cc0_scratch4 cc0_scratch5

/-- The body at any point is the body on its operands. -/
theorem body0_eq (t : Fin cfg0.N) : bodyAt0 (F := F) t = body0 := rfl

set_option sl_exec.dmaWindow true in
/-- The body, run from any contents: the arrays read are unchanged, every counter is back at zero, and the result
    and the scratch buffers hold something. -/
theorem body_run (c : Dev nD) (f0 f1 f2 f3 f4 f5 f6 fo g0 g1 g2 g3) (W : Waits sig Unit) (K : PUnit → sProp 𝕄) :
        iprop(pt c aN f0 ∗ pt c aW2 f1 ∗ pt c aB2 f2 ∗ pt c aW3 f3 ∗ pt c aB3 f4
            ∗ pt c aW5 f5 ∗ pt c aB5 f6 ∗ pt c aO fo
            ∗ pt c sN g0 ∗ pt c sD g1 ∗ pt c sC g2 ∗ pt c sO g3
            ∗ cell c 6 ∗ cell c 7 ∗ cell c 8 ∗ cell c 9 ∗ cell c 10 ∗ cell c 11 ∗ cell c 12 ∗ cell c 13
            ∗ owes (c : Thread nD τ) 0 W
            ∗ (iprop(pt c aN f0 ∗ pt c aW2 f1 ∗ pt c aB2 f2 ∗ pt c aW3 f3 ∗ pt c aB3 f4
                  ∗ pt c aW5 f5 ∗ pt c aB5 f6 ∗ (∃ f, pt c aO f)
                  ∗ (∃ f, pt c sN f) ∗ (∃ f, pt c sD f) ∗ (∃ f, pt c sC f) ∗ (∃ f, pt c sO f)
                  ∗ cell c 6 ∗ cell c 7 ∗ cell c 8 ∗ cell c 9 ∗ cell c 10 ∗ cell c 11 ∗ cell c 12 ∗ cell c 13
                  ∗ (∃ W', owes (c : Thread nD τ) 0 W')) -∗ K ⟨⟩))
          ⊢ wp frame (wpE (defs₀ (F := F)) Variants.none c none) Set.univ body0 K := by
  unfold body0
  simp only [cc0__body_eq_skeleton]; unfold cc0__body_skel
  iintro ⟨H0, H1, H2, H3, H4, H5, H6, Ho, Hg0, Hg1, Hg2, Hg3, Hq0, Hq1, Hq2, Hq3, Hq4, Hq5, Hq6, Hq7, HW, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ho]; · iexists _; iexact Ho
  isplitl [Hg0]; · iexists _; iexact Hg0
  isplitl [Hg1]; · iexists _; iexact Hg1
  isplitl [Hg2]; · iexists _; iexact Hg2
  isplitl [Hg3]; · iexists _; iexact Hg3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

end Cert.Kernel.Hand
-- ==== Proof.KernelLaunch.lean ====
module

public import proofs.«01_k».proof.Proof.KernelRun

/-!
  The launch: the body's run placed in the program, and what its arguments hold when the program ends.
-/

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program up to the region: the host's reshapes, then the region. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The array the body reads in place, and the array it writes in place. -/
def H0 : Finset (Ref sig .tc) := {main_arg0}
/-- The array the body writes in place. -/
def R0 : Finset (Ref sig .tc) := {main_v3}
/-- The array read in place is no staged operand. -/
theorem H0_sub : H0 ⊆ Pipeline.restRefs sig spec0 := by decide
/-- The array written in place is no staged operand, nor the one read in place. -/
theorem R0_sub : R0 ⊆ Pipeline.restRefs sig spec0 \ H0 := by decide

/-- The body's own counters: four for the copies in, four for the copies out. -/
abbrev osem0 : Fin 8 → SemLoc sig := fun j =>
  (![SemLoc.dma 6, SemLoc.dma 7, SemLoc.dma 8, SemLoc.dma 9, SemLoc.dma 10, SemLoc.dma 11, SemLoc.dma 12, SemLoc.dma 13] : Fin 8 → SemLoc sig) j
/-- The body's own counters are distinct, and none of them serves the staging of operands. -/
theorem ownSemFacts0 : Pipeline.OwnSemFacts spec0 osem0 := by decide
/-- The body's own counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 6 ∗ cell c 7 ∗ cell c 8 ∗ cell c 9 ∗ cell c 10 ∗ cell c 11 ∗ cell c 12 ∗ cell c 13) := by
  rw [Pipeline.ownSems0_eq_of_list c osem0 [0, 1, 2, 3, 4, 5, 6, 7] (by decide) (by decide)]; rfl

/-- The array read in place, held as the nodes' points-to. -/
theorem nodes_eq (c : Dev nD) :
    (bigSep H0 (fun b => ((c : Thread nD τ).loc b) ↦{fullShare} V m c b) : sProp 𝕄) = pt c aN (V m c main_arg0) := by
  rw [BI.bigSep_eq_bigSepL_of_eq [main_arg0] (by decide) (by decide)]; rfl

/-- The run's one point. -/
abbrev t₀ : Fin cfg0.N := ⟨0, by decide⟩

/-- The array written in place, held at some contents. -/
theorem written_eq (c : Dev nD) : (Pipeline.owned R0 c : sProp 𝕄) = iprop(∃ f, pt c aO f) := by
  unfold Pipeline.owned; rw [BI.bigSep_eq_bigSepL_of_eq [main_v3] (by decide) (by decide)]; rfl

/-- What the body holds beside the staged operands, with the result array at some contents. -/
theorem held_eq (c : Dev nD) :
    (Pipeline.ΦDR osem0 spec0 H0 R0 (V m) c : sProp 𝕄)
      = iprop(iprop((∃ f, pt c sN f) ∗ (∃ f, pt c sD f) ∗ (∃ f, pt c sC f) ∗ (∃ f, pt c sO f))
          ∗ (∃ r, prngReg c r)
          ∗ iprop(cell c 6 ∗ cell c 7 ∗ cell c 8 ∗ cell c 9 ∗ cell c 10 ∗ cell c 11 ∗ cell c 12 ∗ cell c 13)
          ∗ pt c aN (V m c main_arg0) ∗ (∃ f, pt c aO f)) := by
  rw [Pipeline.ΦDR_eq, scopedRest0_eq, ownSems00_eq, nodes_eq, written_eq]

/-- The proof data: the staged operands keep their blocks; nothing is said of the result array. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ _ := Pipeline.ΦDR osem0 spec0 H0 R0 (V m) c
  q _ := fullShare
  owed _ := 0

/-- The proof data begins with the arrays' entry contents. -/
theorem A_eq (c : Dev nD) (w : Fin cfg0.W) : (dats m 0 c).A w = V m c (Pipeline.arrRef spec0 w) := by
  dsimp only [dats]

/-- A staged operand holds its block when the body starts, and still when it ends. -/
theorem before_eq (c : Dev nD) (w : Fin cfg0.W) (t : Fin cfg0.N) (d) : (dats m 0 c).before w t d = (dats m 0 c).after w t := by
  fin_cases w <;>
    exact ((dats m 0 c).before_in_eq_fetched _ rfl (fun _ => rfl) (fun _ _ _ => rfl) (fun _ => rfl) t d).trans rfl

/-- A staging buffer held through its memref is the buffer held whole. -/
theorem owns_staged (c : Dev nD) {b : Ref sig .tc} (f : b.ty.Contents (Elt F)) :
    (owns (c : Thread nD τ) (Memref.whole b) fullShare f : sProp 𝕄) = pt c (Memref.whole b) f :=
  owns_whole (c : Thread nD τ) b fullShare f

/-- What the body is handed at the point, and what it hands back. -/
def bodyPre (c : Dev nD) (t : Fin cfg0.N) : sProp 𝕄 :=
  iprop((dats m 0 c).Φ t.castSucc ∗ (dats m 0 c).owesAt () t.castSucc
    ∗ (∃ d, owns (c : Thread nD τ) aW2 fullShare ((dats m 0 c).before 0 t d))
    ∗ (∃ d, owns (c : Thread nD τ) aB2 fullShare ((dats m 0 c).before 1 t d))
    ∗ (∃ d, owns (c : Thread nD τ) aW3 fullShare ((dats m 0 c).before 2 t d))
    ∗ (∃ d, owns (c : Thread nD τ) aB3 fullShare ((dats m 0 c).before 3 t d))
    ∗ (∃ d, owns (c : Thread nD τ) aW5 fullShare ((dats m 0 c).before 4 t d))
    ∗ (∃ d, owns (c : Thread nD τ) aB5 fullShare ((dats m 0 c).before 5 t d)))
/-- What the body leaves: the staged operands as they were, and what it holds beside them after the point. -/
def bodyPost (c : Dev nD) (t : Fin cfg0.N) : sProp 𝕄 :=
  iprop((dats m 0 c).Φ t.succ ∗ (dats m 0 c).owesAt () t.succ
    ∗ owns (c : Thread nD τ) aW2 fullShare ((dats m 0 c).after 0 t)
    ∗ owns (c : Thread nD τ) aB2 fullShare ((dats m 0 c).after 1 t)
    ∗ owns (c : Thread nD τ) aW3 fullShare ((dats m 0 c).after 2 t)
    ∗ owns (c : Thread nD τ) aB3 fullShare ((dats m 0 c).after 3 t)
    ∗ owns (c : Thread nD τ) aW5 fullShare ((dats m 0 c).after 4 t)
    ∗ owns (c : Thread nD τ) aB5 fullShare ((dats m 0 c).after 5 t))

/-- The body runs from what it is given to what it is to leave. -/
theorem sound_body (c : Dev nD) (t : Fin cfg0.N) :
    bodyPre m c t ⊢ wp frame (wpE (defs₀ (F := F)) Variants.none c none) Set.univ (bodyAt0 t) (fun _ => bodyPost m c t) := by
  obtain rfl : t = t₀ := fin_N0 t
  rw [body0_eq]
  unfold bodyPre bodyPost
  simp only [before_eq]
  rw [show (dats m 0 c).Φ t₀.castSucc = Pipeline.ΦDR osem0 spec0 H0 R0 (V m) c from rfl,
    show (dats m 0 c).Φ t₀.succ = Pipeline.ΦDR osem0 spec0 H0 R0 (V m) c from rfl, held_eq]
  unfold Dat.owesAt Pipeline.owesWithin
  rw [show (dats m 0 c).owed t₀.castSucc = 0 from rfl, show (dats m 0 c).owed t₀.succ = 0 from rfl]
  iintro ⟨⟨⟨⟨%g0, Hg0⟩, ⟨%g1, Hg1⟩, ⟨%g2, Hg2⟩, ⟨%g3, Hg3⟩⟩, Hp, ⟨Hq0, Hq1, Hq2, Hq3, Hq4, Hq5, Hq6, Hq7⟩, H0, ⟨%fo, Ho⟩⟩, ⟨%W, -, HW⟩,
    ⟨%d1, H1⟩, ⟨%d2, H2⟩, ⟨%d3, H3⟩, ⟨%d4, H4⟩, ⟨%d5, H5⟩, ⟨%d6, H6⟩⟩
  simp only [owns_staged]
  iapply (body_run c (V m c main_arg0) (iblk m c 0 t₀) (iblk m c 1 t₀) (iblk m c 2 t₀) (iblk m c 3 t₀) (iblk m c 4 t₀) (iblk m c 5 t₀)
    fo g0 g1 g2 g3 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ho]; · iexact Ho
  isplitl [Hg0]; · iexact Hg0
  isplitl [Hg1]; · iexact Hg1
  isplitl [Hg2]; · iexact Hg2
  isplitl [Hg3]; · iexact Hg3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨H0, H1, H2, H3, H4, H5, H6, Ho, Hg0, Hg1, Hg2, Hg3, Hq0, Hq1, Hq2, Hq3, Hq4, Hq5, Hq6, Hq7, ⟨%W', HW'⟩⟩
  isplitl [H0 Ho Hg0 Hg1 Hg2 Hg3 Hp Hq0 Hq1 Hq2 Hq3 Hq4 Hq5 Hq6 Hq7]
  · isplitl [Hg0 Hg1 Hg2 Hg3]
    · isplitl [Hg0]; · iexact Hg0
      isplitl [Hg1]; · iexact Hg1
      isplitl [Hg2]; · iexact Hg2
      iexact Hg3
    isplitl [Hp]; · iexact Hp
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [H0]; · iexact H0
    iexact Ho
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  iexact H6

/-- The body table's one row is the body. -/
theorem defs₀_row (t : Fin cfg0.N) :
    defs₀ (F := F) .tc cfg0.body (cfg0.bodyArgs t (cfg0.slots t)) = bodyAt0 t := by
  unfold defs₀; rw [Defs.onTc_tc]

/-- The body meets the obligation of the launch at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs; every array but the result ends as the region found it, every counter ends at zero. -/
theorem run_main : θ_run defs (onTc (τ := τ) (main (F := F))) (s₀ m ρ)
    (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := entry m Variants.none) (hA := A_eq m)
    (hin := fun _ => .rfl) (hout := fun _ => .rfl)

/-- The arguments' part of the run's end. -/
def Unchanged (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)

/-- An array no window stages and the body does not write ends as the region found it. -/
theorem rest_unchanged {r : PUnit × MemSt nD τ sig (Elt F)} (h : Pipeline.FramePostR cfgs (dats m) 0 R0 (V m) r) (c : Dev nD)
    (b : Ref sig .tc) (hb : b ∈ Pipeline.restRefs sig spec0 \ R0) : r.2.mem ((c.tc : Thread nD τ).loc b) = V m c b :=
  (h c).2 b hb

/-- The argument arrays end unchanged. -/
theorem unchanged_of {r : PUnit × MemSt nD τ sig (Elt F)} (h : Pipeline.FramePostR cfgs (dats m) 0 R0 (V m) r) : Unchanged m r.2 := fun c =>
  ⟨(rest_unchanged m h c main_arg0 (by decide)).trans (V_main_arg0 m c),
    (rest_unchanged m h c main_arg1 (by decide)).trans (V_main_arg1 m c),
    ((h c).1 0).trans (((dats m 0 c).arrAt_in 0 rfl _).trans ((A_eq m c 0).trans (V_main_arg2 m c))),
    (rest_unchanged m h c main_arg3 (by decide)).trans (V_main_arg3 m c),
    ((h c).1 2).trans (((dats m 0 c).arrAt_in 2 rfl _).trans ((A_eq m c 2).trans (V_main_arg4 m c))),
    (rest_unchanged m h c main_arg5 (by decide)).trans (V_main_arg5 m c),
    ((h c).1 4).trans (((dats m 0 c).arrAt_in 4 rfl _).trans ((A_eq m c 4).trans (V_main_arg6 m c))),
    (rest_unchanged m h c main_arg7 (by decide)).trans (V_main_arg7 m c)⟩

/-- The program runs: the arguments end unchanged and every counter ends at zero. -/
theorem runs : θ_run defs (onTc (τ := τ) (main (F := F))) (s₀ m ρ) (fun r => Unchanged m r.2 ∧ r.2.sem = fun _ => 0) :=
  (θ_run defs _ _).mono (fun r h => ⟨unchanged_of m h.1, h.2⟩) (run_main m ρ)

end Cert.Kernel.Hand
-- ==== Proof.KernelIdealBlocks.lean ====
module

public import proofs.«01_k».proof.Proof.Gen.KernelIdeal.Skeleton

/-!
  What one block of 2048 rows contributes, as functions of the arrays a block reads. Every definition is stated once and
  used for each of the four blocks. `x` is a block of rows of the nodes; `W2 b2 W3 b3 W5 b5` are the weights and biases.
-/

@[expose] public section

noncomputable section

namespace Cert.KernelIdeal.Hand

open Cert.KernelIdeal Cert.KernelIdeal.Gen
open Idealize.ShloMosaic

variable {F : FTy → Type} [FloatOps F] [Named F]

/-- The block's hidden rows `x · W3ᵀ + b3`. -/
def hid (W3 : FVec F S128x128 .f32) (b3 : FVec F S1x128 .f32) (x : FVec F S2048x128 .f32) : FVec F S2048x128 .f32 :=
  addf (matmul dot_S2048x128_S128x128_S2048x128_1_1_0_0_n_n none (truncf .bf16 x bitsLt_bf16_f32) (truncf .bf16 W3 bitsLt_bf16_f32)
      (constant S2048x128 .f32 0x00000000#32))
    (broadcastTo S2048x128 (shapeCast S1x128 b3 shapeCasts_S1x128_S1x128) broadcasts_S1x128_S2048x128)

/-- The hidden rows in the narrow format. -/
def hidN (W3 : FVec F S128x128 .f32) (b3 : FVec F S1x128 .f32) (x : FVec F S2048x128 .f32) : FVec F S2048x128 .bf16 :=
  truncf .bf16 (hid W3 b3 x) bitsLt_bf16_f32

/-- The block's share of `Hᵀ · nodes`. -/
def crossSum (W3 : FVec F S128x128 .f32) (b3 : FVec F S1x128 .f32) (x : FVec F S2048x128 .f32) : FVec F S128x128 .f32 :=
  matmul dot_S2048x128_S2048x128_S128x128_0_0_1_1_n_n none (hidN W3 b3 x) (truncf .bf16 x bitsLt_bf16_f32)
    (constant S128x128 .f32 0x00000000#32)

/-- The block's share of the column sums of `H`. -/
def colSum (W3 : FVec F S128x128 .f32) (b3 : FVec F S1x128 .f32) (x : FVec F S2048x128 .f32) : FVec F S1x128 .f32 :=
  shapeCast S1x128 (multiReduction .add [0] S128 (hid W3 b3 x) 0x00000000#32 reduces_S2048x128_S128 (.inl rfl) rfl)
    shapeCasts_S128_S1x128

/-- Each row's squared length of the hidden rows, repeated along the lanes (a product with a matrix of ones). -/
def selfDot (W3 : FVec F S128x128 .f32) (b3 : FVec F S1x128 .f32) (x : FVec F S2048x128 .f32) : FVec F S2048x128 .f32 :=
  matmul dot_S2048x128_S128x128_S2048x128_1_0_0_1_n_n none (mulf (hidN W3 b3 x) (hidN W3 b3 x))
    (broadcast S128x128 (Scalar.ofBits .bf16 0x3F80#16 : F .bf16)) (constant S2048x128 .f32 0x00000000#32)

/-- The rows of the block scaled by their squared lengths, as kept for the second pass. -/
def scaled (W3 : FVec F S128x128 .f32) (b3 : FVec F S1x128 .f32) (x : FVec F S2048x128 .f32) : FVec F S2048x128 .bf16 :=
  shapeCast S2048x128 (truncf .bf16 (mulf (selfDot W3 b3 x) x) bitsLt_bf16_f32) shapeCasts_S2048x128_S2048x128

/-- The squared lengths as kept for the second pass. -/
def lengths (W3 : FVec F S128x128 .f32) (b3 : FVec F S1x128 .f32) (x : FVec F S2048x128 .f32) : FVec F S2048x128 .bf16 :=
  shapeCast S2048x128 (truncf .bf16 (selfDot W3 b3 x) bitsLt_bf16_f32) shapeCasts_S2048x128_S2048x128

/-- Four blocks' shares added in order, from zero: the sum over all rows of `Hᵀ · nodes`. -/
def crossTotal (W3 : FVec F S128x128 .f32) (b3 : FVec F S1x128 .f32) (x : Fin 4 → FVec F S2048x128 .f32) : FVec F S128x128 .f32 :=
  addf (addf (addf (addf (broadcast S128x128 (Scalar.ofBits .f32 0x00000000#32 : F .f32)) (crossSum W3 b3 (x 0)))
    (crossSum W3 b3 (x 1))) (crossSum W3 b3 (x 2))) (crossSum W3 b3 (x 3))

/-- Four blocks' shares added in order, from zero: the column sums of `H` over all rows. -/
def colTotal (W3 : FVec F S128x128 .f32) (b3 : FVec F S1x128 .f32) (x : Fin 4 → FVec F S2048x128 .f32) : FVec F S1x128 .f32 :=
  addf (addf (addf (addf (broadcast S1x128 (Scalar.ofBits .f32 0x00000000#32 : F .f32)) (colSum W3 b3 (x 0)))
    (colSum W3 b3 (x 1))) (colSum W3 b3 (x 2))) (colSum W3 b3 (x 3))

/-- `W5 · W2`. -/
def w25 (W2 W5 : FVec F S128x128 .f32) : FVec F S128x128 .f32 :=
  matmul dot_S128x128_S128x128_S128x128_1_0_0_1_n_n none W5 W2 (constant S128x128 .f32 0x00000000#32)

/-- `b2 · W5ᵀ`. -/
def c25 (b2 : FVec F S1x128 .f32) (W5 : FVec F S128x128 .f32) : FVec F S1x128 .f32 :=
  matmul dot_S1x128_S128x128_S1x128_1_1_0_0_n_n none (shapeCast S1x128 b2 shapeCasts_S1x128_S1x128) W5
    (constant S1x128 .f32 0x00000000#32)

/-- The middle matrix: the totals carried through both output weights. -/
def mid (W2 : FVec F S128x128 .f32) (b2 : FVec F S1x128 .f32) (W5 : FVec F S128x128 .f32) (s : FVec F S128x128 .f32)
    (hs : FVec F S1x128 .f32) : FVec F S128x128 .f32 :=
  addf (matmul dot_S128x128_S128x128_S128x128_1_1_0_0_n_n none s (w25 W2 W5) (constant S128x128 .f32 0x00000000#32))
    (matmul dot_S1x128_S1x128_S128x128_0_0_1_1_n_n none hs (c25 b2 W5) (constant S128x128 .f32 0x00000000#32))

/-- The weight applied to the rows: `W3ᵀ · mid`, scaled by `inv`. -/
def uMat (W3 t : FVec F S128x128 .f32) : FVec F S128x128 .f32 :=
  mulf (matmul dot_S128x128_S128x128_S128x128_0_0_1_1_n_n none W3 t (constant S128x128 .f32 0x00000000#32))
    (broadcast S128x128 (Named.named κ "inv" 0x39000400#32 : F .f32))

/-- The row added to every row: `b3 · mid`, scaled by `inv`, plus `b5`. -/
def cRow (b3 b5 : FVec F S1x128 .f32) (t : FVec F S128x128 .f32) : FVec F S1x128 .f32 :=
  addf (mulf (matmul dot_S1x128_S128x128_S1x128_1_0_0_1_n_n none (shapeCast S1x128 b3 shapeCasts_S1x128_S1x128) t
      (constant S1x128 .f32 0x00000000#32)) (broadcast S1x128 (Named.named κ "inv" 0x39000400#32 : F .f32)))
    (shapeCast S1x128 b5 shapeCasts_S1x128_S1x128)

/-- The stacked weight of the second pass: `u` above the transpose of `W5 · W2` scaled by `neg_inv`. -/
def stacked (u w : FVec F S128x128 .f32) : FVec F S256x128 .bf16 :=
  concatenate S256x128 0 [⟨S128x128, truncf .bf16 u bitsLt_bf16_f32⟩,
    ⟨S128x128, truncf .bf16 (transpose S128x128 [1, 0] (mulf w (broadcast S128x128 (Named.named κ "neg_inv" 0xB9000400#32 : F .f32)))
      transposes_S128x128_p1_0_S128x128) bitsLt_bf16_f32⟩] concatenates_S128x128_S128x128_S256x128_d0

/-- `b2 · W5ᵀ` scaled by `inv`. -/
def c25i (b2 : FVec F S1x128 .f32) (W5 : FVec F S128x128 .f32) : FVec F S1x128 .f32 :=
  mulf (c25 b2 W5) (broadcast S1x128 (Named.named κ "inv" 0x39000400#32 : F .f32))

/-- Two blocks of rows side by side. -/
def beside (a b : FVec F S2048x128 .bf16) : FVec F S2048x256 .bf16 :=
  concatenate S2048x256 1 [⟨S2048x128, a⟩, ⟨S2048x128, b⟩] concatenates_S2048x128_S2048x128_S2048x256_d1

/-- The second pass over one block: the rows beside the scaled rows, through the stacked weight. -/
def product (r : FVec F S256x128 .bf16) (x : FVec F S2048x128 .f32) (d : FVec F S2048x128 .bf16) : FVec F S2048x128 .f32 :=
  shapeCast S2048x128 (matmul dot_S2048x256_S256x128_S2048x128_1_0_0_1_n_n none (beside (truncf .bf16 x bitsLt_bf16_f32) d)
      r (constant S2048x128 .f32 0x00000000#32)) shapeCasts_S2048x128_S2048x128

/-- The second pass over one block, finished: the residual, the added row and the diagonal's correction. -/
def finish (c ci : FVec F S1x128 .f32) (p x : FVec F S2048x128 .f32) (d : FVec F S2048x128 .bf16) : FVec F S2048x128 .f32 :=
  shapeCast S2048x128 (addf p (subf (addf x (broadcastTo S2048x128 c broadcasts_S1x128_S2048x128))
      (mulf (extf .f32 d bitsLt_bf16_f32) (broadcastTo S2048x128 ci broadcasts_S1x128_S2048x128)))) shapeCasts_S2048x128_S2048x128

/-- One block of the result, from all four blocks `x` of the nodes. -/
def outBlk (W2 : FVec F S128x128 .f32) (b2 : FVec F S1x128 .f32) (W3 : FVec F S128x128 .f32) (b3 : FVec F S1x128 .f32)
    (W5 : FVec F S128x128 .f32) (b5 : FVec F S1x128 .f32) (x : Fin 4 → FVec F S2048x128 .f32) (k : Fin 4) : FVec F S2048x128 .f32 :=
  let t := mid W2 b2 W5 (crossTotal W3 b3 x) (colTotal W3 b3 x)
  finish (cRow b3 b5 t) (c25i b2 W5) (product (stacked (uMat W3 t) (w25 W2 W5)) (x k) (scaled W3 b3 (x k))) (x k) (lengths W3 b3 (x k))

end Cert.KernelIdeal.Hand
-- ==== Proof.KernelIdealRun.lean ====
module

public import proofs.«01_k».proof.Proof.Gen.KernelIdeal.Frame
public import proofs.«01_k».proof.Proof.KernelIdealBlocks
public import Idealize.ShloMosaic.Lib.Pipeline.FrameBody
public import Idealize.ShloMosaic.Lib.Pipeline.FrameValue
public import Idealize.ShloMosaic.Lib.Pipeline.RowLoads
public import Idealize.ShloMosaic.Lib.VecWindow
public import Idealize.ShloMosaic.Lib.Ring
public import Idealize.ShloMosaic.Lib.Tactic
public import Idealize.ShloMosaic.Lib.WordCmp

/-!
  One execution of the kernel's body: what every buffer holds before, and after.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The buffer behind `M`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The nodes and the result, left in HBM. -/
abbrev aN : Memref sig .tc .hbm S8192x128 .f32 := Memref.whole main_arg0
/-- The result array. -/
abbrev aO : Memref sig .tc .hbm S8192x128 .f32 := Memref.whole main_v3
/-- The staged weights and biases. -/
abbrev aW2 : Memref sig .tc .vmem S128x128 .f32 := Memref.whole cc0_stg0_0
/-- The second bias, as staged. -/
abbrev aB2 : Memref sig .tc .vmem S1x128 .f32 := Memref.whole cc0_stg1_0
/-- The third weight, as staged. -/
abbrev aW3 : Memref sig .tc .vmem S128x128 .f32 := Memref.whole cc0_stg2_0
/-- The third bias, as staged. -/
abbrev aB3 : Memref sig .tc .vmem S1x128 .f32 := Memref.whole cc0_stg3_0
/-- The fifth weight, as staged. -/
abbrev aW5 : Memref sig .tc .vmem S128x128 .f32 := Memref.whole cc0_stg4_0
/-- The fifth bias, as staged. -/
abbrev aB5 : Memref sig .tc .vmem S1x128 .f32 := Memref.whole cc0_stg5_0
/-- The scratch buffers: the nodes, the scaled rows, the squared lengths, the result. -/
abbrev sN : Memref sig .tc .vmem S8192x128 .f32 := Memref.whole cc0_scratch0
/-- The scratch of scaled rows. -/
abbrev sD : Memref sig .tc .vmem S8192x128 .bf16 := Memref.whole cc0_scratch1
/-- The scratch of squared lengths. -/
abbrev sC : Memref sig .tc .vmem S8192x128 .bf16 := Memref.whole cc0_scratch2
/-- The scratch the result blocks leave from. -/
abbrev sO : Memref sig .tc .vmem S8192x128 .f32 := Memref.whole cc0_scratch3

/-- A transfer's counter at zero. -/
abbrev cell (c : Dev nD) (k : Fin 14) : sProp 𝕄 := semVal ((c : Thread nD τ), SemLoc.dma k) 0

/-- The kernel's body on its operands. -/
abbrev body0 : Prog (TpuEff nD τ sig (Elt F) Λ₀ .tc) PUnit :=
  cc0__body aN (Memref.isWhole_whole _) aW2 (Memref.isWhole_whole _) aB2 (Memref.isWhole_whole _) aW3 (Memref.isWhole_whole _)
    aB3 (Memref.isWhole_whole _) aW5 (Memref.isWhole_whole _) aB5 (Memref.isWhole_whole _) aO (Memref.isWhole_whole _)
    sN (Memref.isWhole_whole _) sD (Memref.isWhole_whole _) sC (Memref.isWhole_whole _) sO (Memref.isWhole_whole _) cc0_scratch4 cc0_scratch5

/-- The body at any point is the body on its operands. -/
theorem body0_eq (t : Fin cfg0.N) : bodyAt0 (F := F) t = body0 := rfl

/-- The rows of block `k`: 2048 of them, from row `2048 k`. -/
abbrev blockRows (k : Fin 4) : Rect S8192x128 :=
  Rect.unit ![k.val * 2048, 0] S2048x128.size (by fin_cases k <;> decide)

/-- Block `k` of an array of 8192 rows. -/
def block (f : FVec F S8192x128 .f32) (k : Fin 4) : FVec F S2048x128 .f32 := fun y => f ((blockRows k).emb y)

/-- The four blocks the body copies into the result, the last first. -/
def outPieces (f0 : FVec F S8192x128 .f32) (W2 : FVec F S128x128 .f32) (b2 : FVec F S1x128 .f32) (W3 : FVec F S128x128 .f32)
    (b3 : FVec F S1x128 .f32) (W5 : FVec F S128x128 .f32) (b5 : FVec F S1x128 .f32) : List (View.Piece (Elt F) S8192x128 .f32) :=
  [⟨blockRows 3, outBlk W2 b2 W3 b3 W5 b5 (block f0) 3⟩, ⟨blockRows 2, outBlk W2 b2 W3 b3 W5 b5 (block f0) 2⟩,
    ⟨blockRows 1, outBlk W2 b2 W3 b3 W5 b5 (block f0) 1⟩, ⟨blockRows 0, outBlk W2 b2 W3 b3 W5 b5 (block f0) 0⟩]

/-- A read of rows that the newest write does not touch. -/
theorem readCov_skip {sp : Space} {e : EltTy} (v : View sig .tc sp S8192x128 e) (o o' : ℕ) (h : o + 2048 ≤ o' ∨ o' + 2048 ≤ o)
    (inb : ∀ a, (![o, 0] : Fin 2 → ℕ) a + (![2048, 128] : Fin 2 → ℕ) a ≤ S8192x128.size a)
    (inb' : ∀ a, (![o', 0] : Fin 2 → ℕ) a + (![2048, 128] : Fin 2 → ℕ) a ≤ S8192x128.size a)
    (x : S2048x128.Idx → Elt F e) (L : List (View.Piece (Elt F) S8192x128 e)) :
    v.readCov ((⟨Rect.unit (s := S8192x128) ![o, 0] ![2048, 128] inb, x⟩ : View.Piece (Elt F) S8192x128 e) :: L)
        (Rect.unit (s := S8192x128) ![o', 0] ![2048, 128] inb').toLoadRect
      = v.readCov L (Rect.unit (s := S8192x128) ![o', 0] ![2048, 128] inb').toLoadRect :=
  View.readCov_cons_of_rows_disjoint v o o' h x L inb inb'

/-- A read of exactly the rows that the newest write filled. -/
theorem readCov_hit {sp : Space} {e : EltTy} (v : View sig .tc sp S8192x128 e) (o : ℕ)
    (inb : ∀ a, (![o, 0] : Fin 2 → ℕ) a + (![2048, 128] : Fin 2 → ℕ) a ≤ S8192x128.size a) (x : S2048x128.Idx → Elt F e)
    (L : List (View.Piece (Elt F) S8192x128 e)) :
    v.readCov ((⟨Rect.unit (s := S8192x128) ![o, 0] ![2048, 128] inb, x⟩ : View.Piece (Elt F) S8192x128 e) :: L)
      (Rect.unit (s := S8192x128) ![o, 0] ![2048, 128] inb).toLoadRect = x :=
  View.readCov_cons_toLoadRect v (Rect.unit (s := S8192x128) ![o, 0] ![2048, 128] inb) x L

/-- Two blocks of rows side by side, named. -/
theorem beside_eq (a b : FVec F S2048x128 .bf16) (h : Shape.Concatenates (([⟨S2048x128, a⟩, ⟨S2048x128, b⟩] : List (Σ S : Shape, FVec F S .bf16)).map (·.1)) S2048x256 1) :
    concatenate S2048x256 1 [⟨S2048x128, a⟩, ⟨S2048x128, b⟩] h = beside a b := rfl

/-- What a copy out of the rows that the newest write filled carries. -/
theorem copied_hit {sp : Space} {e : EltTy} (v : View sig .tc sp S8192x128 e) (f : v.ty.Contents (Elt F)) (o : ℕ)
    (inb : ∀ a, (![o, 0] : Fin 2 → ℕ) a + (![2048, 128] : Fin 2 → ℕ) a ≤ S8192x128.size a) (x : S2048x128.Idx → Elt F e)
    (L : List (View.Piece (Elt F) S8192x128 e)) :
    (View.read (Elt F) (v.slice (Rect.unit (s := S8192x128) ![o, 0] ![2048, 128] inb)) (v.writes (Elt F) f
      ((⟨Rect.unit (s := S8192x128) ![o, 0] ![2048, 128] inb, x⟩ : View.Piece (Elt F) S8192x128 e) :: L))) = x :=
  funext fun y => View.read_writes_cons_emb (v := v) (f := f) (Rect.unit (s := S8192x128) ![o, 0] ![2048, 128] inb) x L y

/-- A load of a whole matrix, and of a whole row. -/
theorem readAt_mat (v : View sig .tc .vmem S128x128 .f32) (f : v.ty.Contents (Elt F))
    (inb : ∀ a, (![0, 0] : Fin 2 → ℕ) a + (![128, 128] : Fin 2 → ℕ) a ≤ S128x128.size a) :
    v.readAt (Elt F) (Rect.unit (s := S128x128) ![0, 0] ![128, 128] inb).toLoadRect f = v.read (Elt F) f :=
  View.readAt_full v f inb

/-- A load of a whole one-row operand reads its contents. -/
theorem readAt_row (v : View sig .tc .vmem S1x128 .f32) (f : v.ty.Contents (Elt F))
    (inb : ∀ a, (![0, 0] : Fin 2 → ℕ) a + (![1, 128] : Fin 2 → ℕ) a ≤ S1x128.size a) :
    v.readAt (Elt F) (Rect.unit (s := S1x128) ![0, 0] ![1, 128] inb).toLoadRect f = v.read (Elt F) f :=
  View.readAt_full v f inb

set_option sl_exec.dmaWindow true in
/-- The body, run from any contents: the arrays read are unchanged, every counter is back at zero, and the result's
    four blocks hold `outBlk` of the nodes' blocks and the weights. -/
theorem body_run (c : Dev nD) (f0 f1 f2 f3 f4 f5 f6 fo g0 g1 g2 g3) (W : Waits sig Unit) (K : PUnit → sProp 𝕄) :
        iprop(pt c aN f0 ∗ pt c aW2 f1 ∗ pt c aB2 f2 ∗ pt c aW3 f3 ∗ pt c aB3 f4
            ∗ pt c aW5 f5 ∗ pt c aB5 f6 ∗ pt c aO fo
            ∗ pt c sN g0 ∗ pt c sD g1 ∗ pt c sC g2 ∗ pt c sO g3
            ∗ cell c 6 ∗ cell c 7 ∗ cell c 8 ∗ cell c 9 ∗ cell c 10 ∗ cell c 11 ∗ cell c 12 ∗ cell c 13
            ∗ owes (c : Thread nD τ) 0 W
            ∗ (iprop(pt c aN f0 ∗ pt c aW2 f1 ∗ pt c aB2 f2 ∗ pt c aW3 f3 ∗ pt c aB3 f4
                  ∗ pt c aW5 f5 ∗ pt c aB5 f6 ∗ pt c aO (aO.view.writes (Elt F) fo (outPieces f0 f1 f2 f3 f4 f5 f6))
                  ∗ (∃ f, pt c sN f) ∗ (∃ f, pt c sD f) ∗ (∃ f, pt c sC f) ∗ (∃ f, pt c sO f)
                  ∗ cell c 6 ∗ cell c 7 ∗ cell c 8 ∗ cell c 9 ∗ cell c 10 ∗ cell c 11 ∗ cell c 12 ∗ cell c 13
                  ∗ (∃ W', owes (c : Thread nD τ) 0 W')) -∗ K ⟨⟩))
          ⊢ wp frame (wpE (defs₀ (F := F)) Variants.none c none) Set.univ body0 K := by
  unfold body0
  simp only [cc0__body_eq_skeleton]; unfold cc0__body_skel
  iintro ⟨H0, H1, H2, H3, H4, H5, H6, Ho, Hg0, Hg1, Hg2, Hg3, Hq0, Hq1, Hq2, Hq3, Hq4, Hq5, Hq6, Hq7, HW, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ho]
  · refine Entails.of_eq ?_
    sl_unfold_words
    simp only [beside_eq, k0_pay42, k0_pay50, readCov_skip, readCov_hit, copied_hit, readAt_mat, readAt_row, View.read_whole, Nat.reduceAdd, Nat.reduceLeDiff, or_true, true_or, or_false, false_or]
    rfl
  isplitl [Hg0]; · iexists _; iexact Hg0
  isplitl [Hg1]; · iexists _; iexact Hg1
  isplitl [Hg2]; · iexists _; iexact Hg2
  isplitl [Hg3]; · iexists _; iexact Hg3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

end Cert.KernelIdeal.Hand
-- ==== Proof.KernelIdealLaunch.lean ====
module

public import proofs.«01_k».proof.Proof.KernelIdealRun

/-!
  The launch: the body's run placed in the program, and what every array holds when the program ends.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The program up to the region: the host's reshapes, then the region. -/
theorem entry (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The array the body reads in place, and the array it writes in place. -/
def H0 : Finset (Ref sig .tc) := {main_arg0}
/-- The array the body writes in place. -/
def R0 : Finset (Ref sig .tc) := {main_v3}
/-- The array read in place is no staged operand. -/
theorem H0_sub : H0 ⊆ Pipeline.restRefs sig spec0 := by decide
/-- The array written in place is no staged operand, nor the one read in place. -/
theorem R0_sub : R0 ⊆ Pipeline.restRefs sig spec0 \ H0 := by decide

/-- The body's own counters: four for the copies in, four for the copies out. -/
abbrev osem0 : Fin 8 → SemLoc sig := fun j =>
  (![SemLoc.dma 6, SemLoc.dma 7, SemLoc.dma 8, SemLoc.dma 9, SemLoc.dma 10, SemLoc.dma 11, SemLoc.dma 12, SemLoc.dma 13] : Fin 8 → SemLoc sig) j
/-- The body's own counters are distinct, and none of them serves the staging of operands. -/
theorem ownSemFacts0 : Pipeline.OwnSemFacts spec0 osem0 := by decide
/-- The body's own counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(cell c 6 ∗ cell c 7 ∗ cell c 8 ∗ cell c 9 ∗ cell c 10 ∗ cell c 11 ∗ cell c 12 ∗ cell c 13) := by
  rw [Pipeline.ownSems0_eq_of_list c osem0 [0, 1, 2, 3, 4, 5, 6, 7] (by decide) (by decide)]; rfl

/-- The array read in place, held as the nodes' points-to. -/
theorem nodes_eq (c : Dev nD) :
    (bigSep H0 (fun b => ((c : Thread nD τ).loc b) ↦{fullShare} V m c b) : sProp 𝕄) = pt c aN (V m c main_arg0) := by
  rw [BI.bigSep_eq_bigSepL_of_eq [main_arg0] (by decide) (by decide)]; rfl

/-- The run's one point. -/
abbrev t₀ : Fin cfg0.N := ⟨0, by decide⟩

/-- What the result array holds when the program ends: the four blocks over what it held. -/
def result (c : Dev nD) : Buf (Elt F) ((c : Thread nD τ).loc main_v3) :=
  aO.view.writes (Elt F) (V m c main_v3) (outPieces (V m c main_arg0) (iblk m c 0 t₀) (iblk m c 1 t₀) (iblk m c 2 t₀) (iblk m c 3 t₀)
    (iblk m c 4 t₀) (iblk m c 5 t₀))

/-- Every array's contents when the program ends. -/
def G (c : Dev nD) : (b : Ref sig .tc) → Buf (Elt F) ((c : Thread nD τ).loc b) := Function.update (V m c) main_v3 (result m c)

/-- The array written in place, held as the result's points-to. -/
theorem routed_eq (c : Dev nD) (W : (b : Ref sig .tc) → Buf (Elt F) ((c : Thread nD τ).loc b)) :
    (Pipeline.routed R0 c W : sProp 𝕄) = pt c aO (W main_v3) := by
  unfold Pipeline.routed; rw [BI.bigSep_eq_bigSepL_of_eq [main_v3] (by decide) (by decide)]; rfl

/-- What the body holds beside the staged operands, with the result array at `W`'s contents. -/
theorem held_eq (c : Dev nD) (W : (c : Dev nD) → (b : Ref sig .tc) → Buf (Elt F) ((c : Thread nD τ).loc b)) :
    (Pipeline.ΦDRG osem0 spec0 H0 R0 (V m) W c : sProp 𝕄)
      = iprop(iprop((∃ f, pt c sN f) ∗ (∃ f, pt c sD f) ∗ (∃ f, pt c sC f) ∗ (∃ f, pt c sO f))
          ∗ (∃ r, prngReg c r)
          ∗ iprop(cell c 6 ∗ cell c 7 ∗ cell c 8 ∗ cell c 9 ∗ cell c 10 ∗ cell c 11 ∗ cell c 12 ∗ cell c 13)
          ∗ pt c aN (V m c main_arg0) ∗ pt c aO (W c main_v3)) := by
  rw [Pipeline.ΦDRG_eq, scopedRest0_eq, ownSems00_eq, nodes_eq, routed_eq]

/-- The proof data: the staged operands keep their blocks; the result array is at its entry contents before the one
    point and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
  Φ t := Pipeline.ΦDRG osem0 spec0 H0 R0 (V m) (if t.val = 0 then V m else G m) c
  q _ := fullShare
  owed _ := 0

/-- The proof data begins with the arrays' entry contents. -/
theorem A_eq (c : Dev nD) (w : Fin cfg0.W) : (dats m 0 c).A w = V m c (Pipeline.arrRef spec0 w) := by
  dsimp only [dats]

/-- A staged operand holds its block when the body starts, and still when it ends. -/
theorem before_eq (c : Dev nD) (w : Fin cfg0.W) (t : Fin cfg0.N) (d) : (dats m 0 c).before w t d = (dats m 0 c).after w t := by
  fin_cases w <;>
    exact ((dats m 0 c).before_in_eq_fetched _ rfl (fun _ => rfl) (fun _ _ _ => rfl) (fun _ => rfl) t d).trans rfl

/-- A staging buffer held through its memref is the buffer held whole. -/
theorem owns_staged (c : Dev nD) {b : Ref sig .tc} (f : b.ty.Contents (Elt F)) :
    (owns (c : Thread nD τ) (Memref.whole b) fullShare f : sProp 𝕄) = pt c (Memref.whole b) f :=
  owns_whole (c : Thread nD τ) b fullShare f

/-- What the body is handed at the point, and what it hands back. -/
def bodyPre (c : Dev nD) (t : Fin cfg0.N) : sProp 𝕄 :=
  iprop((dats m 0 c).Φ t.castSucc ∗ (dats m 0 c).owesAt () t.castSucc
    ∗ (∃ d, owns (c : Thread nD τ) aW2 fullShare ((dats m 0 c).before 0 t d))
    ∗ (∃ d, owns (c : Thread nD τ) aB2 fullShare ((dats m 0 c).before 1 t d))
    ∗ (∃ d, owns (c : Thread nD τ) aW3 fullShare ((dats m 0 c).before 2 t d))
    ∗ (∃ d, owns (c : Thread nD τ) aB3 fullShare ((dats m 0 c).before 3 t d))
    ∗ (∃ d, owns (c : Thread nD τ) aW5 fullShare ((dats m 0 c).before 4 t d))
    ∗ (∃ d, owns (c : Thread nD τ) aB5 fullShare ((dats m 0 c).before 5 t d)))
/-- What the body leaves: the staged operands as they were, and what it holds beside them after the point. -/
def bodyPost (c : Dev nD) (t : Fin cfg0.N) : sProp 𝕄 :=
  iprop((dats m 0 c).Φ t.succ ∗ (dats m 0 c).owesAt () t.succ
    ∗ owns (c : Thread nD τ) aW2 fullShare ((dats m 0 c).after 0 t)
    ∗ owns (c : Thread nD τ) aB2 fullShare ((dats m 0 c).after 1 t)
    ∗ owns (c : Thread nD τ) aW3 fullShare ((dats m 0 c).after 2 t)
    ∗ owns (c : Thread nD τ) aB3 fullShare ((dats m 0 c).after 3 t)
    ∗ owns (c : Thread nD τ) aW5 fullShare ((dats m 0 c).after 4 t)
    ∗ owns (c : Thread nD τ) aB5 fullShare ((dats m 0 c).after 5 t))

/-- The body runs from what it is given to what it is to leave. -/
theorem sound_body (c : Dev nD) (t : Fin cfg0.N) :
    bodyPre m c t ⊢ wp frame (wpE (defs₀ (F := F)) Variants.none c none) Set.univ (bodyAt0 t) (fun _ => bodyPost m c t) := by
  obtain rfl : t = t₀ := fin_N0 t
  rw [body0_eq]
  unfold bodyPre bodyPost
  simp only [before_eq]
  rw [show (dats m 0 c).Φ t₀.castSucc = Pipeline.ΦDRG osem0 spec0 H0 R0 (V m) (V m) c from rfl,
    show (dats m 0 c).Φ t₀.succ = Pipeline.ΦDRG osem0 spec0 H0 R0 (V m) (G m) c from rfl, held_eq, held_eq,
    show G m c main_v3 = result m c from Function.update_self _ _ _]
  unfold result
  unfold Dat.owesAt Pipeline.owesWithin
  rw [show (dats m 0 c).owed t₀.castSucc = 0 from rfl, show (dats m 0 c).owed t₀.succ = 0 from rfl]
  iintro ⟨⟨⟨⟨%g0, Hg0⟩, ⟨%g1, Hg1⟩, ⟨%g2, Hg2⟩, ⟨%g3, Hg3⟩⟩, Hp, ⟨Hq0, Hq1, Hq2, Hq3, Hq4, Hq5, Hq6, Hq7⟩, H0, Ho⟩, ⟨%W, -, HW⟩,
    ⟨%d1, H1⟩, ⟨%d2, H2⟩, ⟨%d3, H3⟩, ⟨%d4, H4⟩, ⟨%d5, H5⟩, ⟨%d6, H6⟩⟩
  simp only [owns_staged]
  iapply (body_run c (V m c main_arg0) (iblk m c 0 t₀) (iblk m c 1 t₀) (iblk m c 2 t₀) (iblk m c 3 t₀) (iblk m c 4 t₀) (iblk m c 5 t₀)
    (V m c main_v3) g0 g1 g2 g3 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Ho]; · iexact Ho
  isplitl [Hg0]; · iexact Hg0
  isplitl [Hg1]; · iexact Hg1
  isplitl [Hg2]; · iexact Hg2
  isplitl [Hg3]; · iexact Hg3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨H0, H1, H2, H3, H4, H5, H6, Ho, Hg0, Hg1, Hg2, Hg3, Hq0, Hq1, Hq2, Hq3, Hq4, Hq5, Hq6, Hq7, ⟨%W', HW'⟩⟩
  isplitl [H0 Ho Hg0 Hg1 Hg2 Hg3 Hp Hq0 Hq1 Hq2 Hq3 Hq4 Hq5 Hq6 Hq7]
  · isplitl [Hg0 Hg1 Hg2 Hg3]
    · isplitl [Hg0]; · iexact Hg0
      isplitl [Hg1]; · iexact Hg1
      isplitl [Hg2]; · iexact Hg2
      iexact Hg3
    isplitl [Hp]; · iexact Hp
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [H0]; · iexact H0
    iexact Ho
  isplitl [HW']
  · iexists W'; isplitr; · ipureintro; exact fun _ _ => Or.inl trivial
    iexact HW'
  isplitl [H1]; · iexact H1
  isplitl [H2]; · iexact H2
  isplitl [H3]; · iexact H3
  isplitl [H4]; · iexact H4
  isplitl [H5]; · iexact H5
  iexact H6

/-- The body table's one row is the body. -/
theorem defs₀_row (t : Fin cfg0.N) :
    defs₀ (F := F) .tc cfg0.body (cfg0.bodyArgs t (cfg0.slots t)) = bodyAt0 t := by
  unfold defs₀; rw [Defs.onTc_tc]

/-- The body meets the obligation of the launch at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs; every staged array ends as it was, the result array ends at `G`, every counter ends at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (G := G m) (hmain := entry m Variants.none) (hA := A_eq m)
    (hin := fun _ => .rfl) (hout := fun _ => .rfl)

/-- The arguments' part of the run's end. -/
def Unchanged (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)

/-- An array no window stages and the body does not write ends as the region found it. -/
theorem rest_unchanged {r : PUnit × MemSt nD τ sig (Elt F)} (h : Pipeline.FramePostR cfgs (dats m) 0 R0 (V m) r) (c : Dev nD)
    (b : Ref sig .tc) (hb : b ∈ Pipeline.restRefs sig spec0 \ R0) : r.2.mem ((c.tc : Thread nD τ).loc b) = V m c b :=
  (h c).2 b hb

/-- The argument arrays end unchanged. -/
theorem unchanged_of {r : PUnit × MemSt nD τ sig (Elt F)} (h : Pipeline.FramePostR cfgs (dats m) 0 R0 (V m) r) : Unchanged m r.2 := fun c =>
  ⟨(rest_unchanged m h c main_arg0 (by decide)).trans (V_main_arg0 m c),
    (rest_unchanged m h c main_arg1 (by decide)).trans (V_main_arg1 m c),
    ((h c).1 0).trans (((dats m 0 c).arrAt_in 0 rfl _).trans ((A_eq m c 0).trans (V_main_arg2 m c))),
    (rest_unchanged m h c main_arg3 (by decide)).trans (V_main_arg3 m c),
    ((h c).1 2).trans (((dats m 0 c).arrAt_in 2 rfl _).trans ((A_eq m c 2).trans (V_main_arg4 m c))),
    (rest_unchanged m h c main_arg5 (by decide)).trans (V_main_arg5 m c),
    ((h c).1 4).trans (((dats m 0 c).arrAt_in 4 rfl _).trans ((A_eq m c 4).trans (V_main_arg6 m c))),
    (rest_unchanged m h c main_arg7 (by decide)).trans (V_main_arg7 m c)⟩

/-- The program runs: the arguments end unchanged, every counter ends at zero, and the result array ends at `result`. -/
theorem runs : θ_run defs (onTc (τ := τ) (main (F := F))) (s₀ m ρ)
    (fun r => (Unchanged m r.2 ∧ r.2.sem = fun _ => 0) ∧ ∀ c : Dev nD, r.2.mem ((c.tc : Thread nD τ).loc main_v3) = result m c) :=
  (θ_run defs _ _).mono (fun r h => ⟨⟨unchanged_of m h.1.toR, h.2⟩, fun c =>
    (h.1.written c (by decide)).trans (Function.update_self _ _ _)⟩) (run_main m ρ)

end Cert.KernelIdeal.Hand
-- ==== Proof.Reals.lean ====
module

public import Idealize.ShloMosaic.Lib.Pointwise

/-!
  Arrays of extended reals that hold real numbers, and the constants both programs spell.
-/

@[expose] public section

noncomputable section

namespace Cert.Reals

open Idealize.ShloMosaic

/-- The array `x` of `a` rows and `b` columns holds the real numbers `ξ`. -/
def Holds {a b : ℕ} (x : (⟨2, ![a, b]⟩ : Shape).Idx → EReal) (ξ : Fin a → Fin b → ℝ) : Prop :=
  ∀ (r : Fin a) (l : Fin b), x (ix2 r l) = ((ξ r l : ℝ) : EReal)

/-- A finite sum of reals, read as an extended real, is the sum of its terms read so. -/
theorem coe_sum {ι : Type} [Fintype ι] (f : ι → ℝ) : ((∑ k, f k : ℝ) : EReal) = ∑ k, ((f k : ℝ) : EReal) :=
  map_sum (⟨⟨Real.toEReal, EReal.coe_zero⟩, EReal.coe_add⟩ : ℝ →+ EReal) f Finset.univ

/-- The single-precision pattern of `8191` denotes the real `8191`. -/
theorem ofBits_8191 : Ideal.ofBits .f32 0x45FFF800#32 = ((8191 : ℝ) : EReal) := by
  simp [Ideal.ofBits, Ideal.ieee, -EReal.coe_mul]; norm_num

/-- The half-width pattern of `1` denotes `1`. -/
theorem ofBits_one_bf16 : Ideal.ofBits .bf16 0x3F80#16 = ((1 : ℝ) : EReal) := by
  simp [Ideal.ofBits, Ideal.ieee, -EReal.coe_mul]; norm_num

/-- The single-precision pattern of `1` denotes `1`. -/
theorem ofBits_one_f32 : Ideal.ofBits .f32 0x3F800000#32 = ((1 : ℝ) : EReal) := by
  simp [Ideal.ofBits, Ideal.ieee, -EReal.coe_mul]; norm_num

/-- The single-precision pattern of the positive infinity denotes `⊤`. -/
theorem ofBits_top : Ideal.ofBits .f32 0x7F800000#32 = (⊤ : EReal) := by
  simp [Ideal.ofBits, Ideal.ieee]

/-- An extended real whose absolute value lies below `⊤` is a real number. -/
theorem coe_toReal_of_abs_lt {x : EReal} (h : max x (-x) < ⊤) : ((x.toReal : ℝ) : EReal) = x := by
  refine EReal.coe_toReal (fun e => ?_) (fun e => ?_) <;> subst e <;> simp at h

end Cert.Reals

end
-- ==== Proof.RealEquation.lean ====
module

public import Mathlib.Data.Real.Basic
public import Mathlib.Algebra.BigOperators.Ring.Finset
public import Mathlib.Algebra.BigOperators.Fin
public import Mathlib.Tactic.Ring

/-!
  The equation between the two programs, over the real numbers and at any sizes: `ι` indexes the rows, `κ` the features.
  Every row is compared with every other one by a scalar product, and the products weigh the other rows; the one side does
  so directly, the other gathers the weights of all rows first and takes each row's own share away afterwards.
-/

@[expose] public section

namespace Cert.RealEquation

open Finset

variable {ι κ : Type} [Fintype ι] [Fintype κ] [DecidableEq ι]

/-- The hidden rows. -/
def H (X : ι → κ → ℝ) (W3 : κ → κ → ℝ) (b3 : κ → ℝ) (i : ι) (f : κ) : ℝ := ∑ k, X i k * W3 f k + b3 f

/-- The product of the two output weights. -/
def W (W2 W5 : κ → κ → ℝ) (o k : κ) : ℝ := ∑ g, W5 o g * W2 g k

/-- The second bias carried through the output weight. -/
def B (b2 : κ → ℝ) (W5 : κ → κ → ℝ) (o : κ) : ℝ := ∑ g, b2 g * W5 o g

/-- A row's squared length. -/
def D (h : ι → κ → ℝ) (i : ι) : ℝ := ∑ f, h i f * h i f

/-- The weights gathered over all rows. -/
def T (X h : ι → κ → ℝ) (w : κ → κ → ℝ) (c : κ → ℝ) (f o : κ) : ℝ :=
  ∑ k, (∑ i, h i f * X i k) * w o k + (∑ i, h i f) * c o

/-- The first program's result without the last bias: gathered weights, each row's own share taken away. -/
def gathered (q q' : ℝ) (X : ι → κ → ℝ) (W2 : κ → κ → ℝ) (b2 : κ → ℝ) (W3 : κ → κ → ℝ) (b3 : κ → ℝ) (W5 : κ → κ → ℝ) (i : ι)
    (o : κ) : ℝ :=
  (∑ k, X i k * ((∑ f, W3 f k * T X (H X W3 b3) (W W2 W5) (B b2 W5) f o) * q)
      + ∑ k, (D (H X W3 b3) i * X i k) * (W W2 W5 o k * q'))
    + ((X i o + (∑ f, b3 f * T X (H X W3 b3) (W W2 W5) (B b2 W5) f o) * q) - D (H X W3 b3) i * (B b2 W5 o * q))

/-- The second program's result without the last bias: the other rows, each weighed by its scalar product with the row. -/
def direct (q : ℝ) (X : ι → κ → ℝ) (W2 : κ → κ → ℝ) (b2 : κ → ℝ) (W3 : κ → κ → ℝ) (b3 : κ → ℝ) (W5 : κ → κ → ℝ) (i : ι) (o : κ) : ℝ :=
  ∑ g, ((∑ j, ((∑ f, H X W3 b3 i f * H X W3 b3 j f) * (1 - if i = j then 1 else 0)) * (∑ k, X j k * W2 g k + b2 g)) * q) * W5 o g
    + X i o

/-- A row carried through the second layer and the output weight. -/
theorem carried (X : ι → κ → ℝ) (W2 : κ → κ → ℝ) (b2 : κ → ℝ) (W5 : κ → κ → ℝ) (j : ι) (o : κ) :
    ∑ g, (∑ k, X j k * W2 g k + b2 g) * W5 o g = ∑ k, X j k * W W2 W5 o k + B b2 W5 o := by
  simp only [W, B, add_mul, sum_add_distrib, sum_mul, mul_sum]
  rw [sum_comm]
  congr 1
  exact sum_congr rfl fun _ _ => sum_congr rfl fun _ _ => by ring

/-- The gathered weights are the hidden rows against the carried rows. -/
theorem T_eq (X h : ι → κ → ℝ) (w : κ → κ → ℝ) (c : κ → ℝ) (f o : κ) :
    T X h w c f o = ∑ j, h j f * (∑ k, X j k * w o k + c o) := by
  simp only [T, mul_add, sum_add_distrib, sum_mul, mul_sum]
  rw [sum_comm]
  congr 1
  exact sum_congr rfl fun _ _ => sum_congr rfl fun _ _ => by ring

/-- The weights applied to a row and the added row together are the row's hidden row against the gathered weights. -/
theorem applied (q : ℝ) (X : ι → κ → ℝ) (W3 : κ → κ → ℝ) (b3 : κ → ℝ) (t : κ → ℝ) (i : ι) :
    ∑ k, X i k * ((∑ f, W3 f k * t f) * q) + (∑ f, b3 f * t f) * q = (∑ f, H X W3 b3 i f * t f) * q := by
  simp only [H, add_mul, sum_add_distrib, sum_mul, mul_sum]
  rw [sum_comm]
  congr 1
  exact sum_congr rfl fun _ _ => sum_congr rfl fun _ _ => by ring

/-- A hidden row against the gathered weights is the sum over all rows of scalar products times carried rows. -/
theorem against (h : ι → κ → ℝ) (p : ι → ℝ) (i : ι) :
    ∑ f, h i f * ∑ j, h j f * p j = ∑ j, (∑ f, h i f * h j f) * p j := by
  simp only [sum_mul, mul_sum]
  rw [sum_comm]
  exact sum_congr rfl fun _ _ => sum_congr rfl fun _ _ => by ring

/-- The sum over the other rows is the sum over all rows without the row's own term. -/
theorem others (a p : ι → ℝ) (i : ι) : ∑ j, (a j * (1 - if i = j then 1 else 0)) * p j = ∑ j, a j * p j - a i * p i := by
  simp only [mul_sub, sub_mul, mul_one, sum_sub_distrib, mul_ite, mul_zero, ite_mul, zero_mul, sum_ite_eq, mem_univ, if_true]

/-- Weighing the rows, scaling and then applying the output weight is weighing the rows the weight was applied to. -/
theorem exchanged (q : ℝ) (a : ι → ℝ) (u : ι → κ → ℝ) (w : κ → ℝ) :
    ∑ g, ((∑ j, a j * u j g) * q) * w g = (∑ j, a j * ∑ g, u j g * w g) * q := by
  simp only [sum_mul, mul_sum]
  rw [sum_comm]
  exact sum_congr rfl fun _ _ => sum_congr rfl fun _ _ => by ring

/-- The two programs' results agree over the real numbers. -/
theorem gathered_eq_direct (q : ℝ) (X : ι → κ → ℝ) (W2 : κ → κ → ℝ) (b2 : κ → ℝ) (W3 : κ → κ → ℝ) (b3 : κ → ℝ) (W5 : κ → κ → ℝ)
    (i : ι) (o : κ) : gathered q (-q) X W2 b2 W3 b3 W5 i o = direct q X W2 b2 W3 b3 W5 i o := by
  have left : gathered q (-q) X W2 b2 W3 b3 W5 i o
      = (∑ f, H X W3 b3 i f * T X (H X W3 b3) (W W2 W5) (B b2 W5) f o) * q
        - D (H X W3 b3) i * (∑ k, X i k * W W2 W5 o k + B b2 W5 o) * q + X i o := by
    have own : ∑ k, (D (H X W3 b3) i * X i k) * (W W2 W5 o k * -q) = -(D (H X W3 b3) i * (∑ k, X i k * W W2 W5 o k) * q) := by
      rw [mul_sum, sum_mul, ← sum_neg_distrib]; exact sum_congr rfl fun _ _ => by ring
    rw [gathered, own, ← applied]
    ring
  have right : direct q X W2 b2 W3 b3 W5 i o
      = (∑ j, ((∑ f, H X W3 b3 i f * H X W3 b3 j f) * (1 - if i = j then 1 else 0)) * (∑ k, X j k * W W2 W5 o k + B b2 W5 o)) * q
        + X i o := by
    rw [direct, exchanged]
    simp only [carried]
  rw [left, right, others, sub_mul]
  simp only [T_eq, against]
  rfl

end Cert.RealEquation
-- ==== Proof.KernelIdealReals.lean ====
module

public import proofs.«01_k».proof.Proof.KernelIdealBlocks
public import proofs.«01_k».proof.Proof.Reals
public import proofs.«01_k».proof.Proof.RealEquation

/-!
  What the kernel's steps compute over the extended reals when the arguments hold real numbers: each step's array again
  holds real numbers, and they are named here.
-/

@[expose] public section

set_option maxRecDepth 16384

noncomputable section

namespace Cert.KernelIdeal.Hand

open Cert.KernelIdeal Cert.KernelIdeal.Gen Cert.Reals
open Idealize.ShloMosaic

/-- The first named constant is the real `1/8191`. -/
theorem inv_eq : (Named.named (F := Ideal) κ "inv" 0x39000400#32 : Ideal .f32) = ((1 / 8191 : ℝ) : EReal) :=
  IdealRules.named_const.ideal_named_scalar _ _ _ _ rfl

/-- The second named constant is the real `-1/8191`. -/
theorem neg_inv_eq : (Named.named (F := Ideal) κ "neg_inv" 0xB9000400#32 : Ideal .f32) = ((-1 / 8191 : ℝ) : EReal) :=
  IdealRules.named_const.ideal_named_scalar _ _ _ _ rfl

section Block

variable {W3 : FVec Ideal S128x128 .f32} {b3 : FVec Ideal S1x128 .f32} {x : FVec Ideal S2048x128 .f32}
  {w3 : Fin 128 → Fin 128 → ℝ} {β3 : Fin 128 → ℝ} {ξ : Fin 2048 → Fin 128 → ℝ}

/-- The hidden rows of a block. -/
def hidR (w3 : Fin 128 → Fin 128 → ℝ) (β3 : Fin 128 → ℝ) (ξ : Fin 2048 → Fin 128 → ℝ) (r : Fin 2048) (l : Fin 128) : ℝ :=
  ∑ k, ξ r k * w3 l k + β3 l

/-- The hidden rows of a block hold `hidR`. -/
theorem hid_holds (hW : Holds W3 w3) (hb : Holds b3 fun _ => β3) (hx : Holds x ξ) : Holds (hid W3 b3 x) (hidR w3 β3 ξ) := by
  intro r l
  pointwise [hid]
  simp only [hW _ _, hb _ _, hx _ _, hidR, EReal.coe_add, EReal.coe_mul, coe_sum]

/-- The block's share of the products of hidden rows and rows. -/
theorem crossSum_holds (hW : Holds W3 w3) (hb : Holds b3 fun _ => β3) (hx : Holds x ξ) :
    Holds (crossSum W3 b3 x) fun f k => ∑ r, hidR w3 β3 ξ r f * ξ r k := by
  intro f k
  pointwise [crossSum, hidN]
  simp only [hid_holds hW hb hx _ _, hx _ _, EReal.coe_mul, coe_sum, zero_add]

/-- The block's share of the column sums of the hidden rows. -/
theorem colSum_holds (hW : Holds W3 w3) (hb : Holds b3 fun _ => β3) (hx : Holds x ξ) :
    Holds (colSum W3 b3 x) fun _ f => ∑ r, hidR w3 β3 ξ r f := by
  intro a f
  pointwise [colSum]
  simp only [hid_holds hW hb hx _ _, coe_sum]

/-- The squared length of each hidden row, on every lane. -/
theorem selfDot_holds (hW : Holds W3 w3) (hb : Holds b3 fun _ => β3) (hx : Holds x ξ) :
    Holds (selfDot W3 b3 x) fun r _ => ∑ f, hidR w3 β3 ξ r f * hidR w3 β3 ξ r f := by
  intro r l
  pointwise [selfDot, hidN]
  simp only [hid_holds hW hb hx _ _, ofBits_one_bf16, EReal.coe_mul, EReal.coe_one, mul_one, coe_sum, zero_add]

/-- The rows scaled by the squared lengths. -/
theorem scaled_holds (hW : Holds W3 w3) (hb : Holds b3 fun _ => β3) (hx : Holds x ξ) :
    Holds (scaled W3 b3 x) fun r l => (∑ f, hidR w3 β3 ξ r f * hidR w3 β3 ξ r f) * ξ r l := by
  intro r l
  pointwise [scaled]
  simp only [selfDot_holds hW hb hx _ _, hx _ _, EReal.coe_mul]

/-- The squared lengths as kept. -/
theorem lengths_holds (hW : Holds W3 w3) (hb : Holds b3 fun _ => β3) (hx : Holds x ξ) :
    Holds (lengths W3 b3 x) fun r _ => ∑ f, hidR w3 β3 ξ r f * hidR w3 β3 ξ r f := by
  intro r l
  pointwise [lengths]
  simp only [selfDot_holds hW hb hx _ _]

end Block

/-- Row `r` of block `k`, among all rows. -/
def row (k : Fin 4) (r : Fin 2048) : Fin 8192 := ⟨k.val * 2048 + r.val, by omega⟩

/-- A sum over all rows is the sum of its four blocks' sums. -/
theorem sum_rows (g : Fin 8192 → ℝ) :
    ∑ i, g i = ((∑ r, g (row 0 r) + ∑ r, g (row 1 r)) + ∑ r, g (row 2 r)) + ∑ r, g (row 3 r) :=
  (Fin.sum_univ_tiles 4 2048 rfl g).trans (Fin.sum_univ_four _)

section Whole

open Cert.RealEquation (H W B D T gathered)

variable {W2 W3 W5 : FVec Ideal S128x128 .f32} {b2 b3 b5 : FVec Ideal S1x128 .f32} {x : Fin 4 → FVec Ideal S2048x128 .f32}
  {w2 w3 w5 : Fin 128 → Fin 128 → ℝ} {β2 β3 : Fin 128 → ℝ} {X : Fin 8192 → Fin 128 → ℝ}

/-- The four blocks' shares together: the products of hidden rows and rows, over all rows. -/
theorem crossTotal_holds (hW : Holds W3 w3) (hb : Holds b3 fun _ => β3) (hx : ∀ k, Holds (x k) fun r => X (row k r)) :
    Holds (crossTotal W3 b3 x) fun f k => ∑ i, H X w3 β3 i f * X i k := by
  intro f k
  pointwise [crossTotal]
  simp only [crossSum_holds hW hb (hx _) _ _, sum_rows, EReal.coe_add, zero_add]
  rfl

/-- The four blocks' shares together: the column sums of the hidden rows, over all rows. -/
theorem colTotal_holds (hW : Holds W3 w3) (hb : Holds b3 fun _ => β3) (hx : ∀ k, Holds (x k) fun r => X (row k r)) :
    Holds (colTotal W3 b3 x) fun _ f => ∑ i, H X w3 β3 i f := by
  intro a f
  pointwise [colTotal]
  simp only [colSum_holds hW hb (hx _) _ _, sum_rows, EReal.coe_add, zero_add]
  rfl

/-- The product of the two output weights. -/
theorem w25_holds (h2 : Holds W2 w2) (h5 : Holds W5 w5) : Holds (w25 W2 W5) (W w2 w5) := by
  intro o k
  pointwise [w25]
  simp only [h2 _ _, h5 _ _, RealEquation.W, EReal.coe_mul, coe_sum, zero_add]

/-- The second bias carried through the output weight. -/
theorem c25_holds (h2 : Holds b2 fun _ => β2) (h5 : Holds W5 w5) : Holds (c25 b2 W5) fun _ => B β2 w5 := by
  intro a o
  pointwise [c25]
  simp only [h2 _ _, h5 _ _, RealEquation.B, EReal.coe_mul, coe_sum, zero_add]

/-- The second bias carried through the output weight, scaled. -/
theorem c25i_holds (h2 : Holds b2 fun _ => β2) (h5 : Holds W5 w5) : Holds (c25i b2 W5) fun _ o => B β2 w5 o * (1 / 8191) := by
  intro a o
  pointwise [c25i]
  simp only [c25_holds h2 h5 _ _, inv_eq, EReal.coe_mul]

/-- The weights gathered over all rows. -/
theorem mid_holds (hW2 : Holds W2 w2) (hb2 : Holds b2 fun _ => β2) (hW5 : Holds W5 w5) {h : Fin 8192 → Fin 128 → ℝ}
    {s : FVec Ideal S128x128 .f32} {t : FVec Ideal S1x128 .f32} (hs : Holds s fun f k => ∑ i, h i f * X i k)
    (ht : Holds t fun _ f => ∑ i, h i f) : Holds (mid W2 b2 W5 s t) (T X h (W w2 w5) (B β2 w5)) := by
  intro f o
  pointwise [mid]
  simp only [w25_holds hW2 hW5 _ _, c25_holds hb2 hW5 _ _, hs _ _, ht _ _, RealEquation.T, EReal.coe_add, EReal.coe_mul, coe_sum, zero_add,
    Fin.sum_univ_one]

/-- The weight applied to the rows. -/
theorem uMat_holds (hW : Holds W3 w3) {t : FVec Ideal S128x128 .f32} {τ : Fin 128 → Fin 128 → ℝ} (ht : Holds t τ) :
    Holds (uMat W3 t) fun k o => (∑ f, w3 f k * τ f o) * (1 / 8191) := by
  intro k o
  pointwise [uMat]
  simp only [hW _ _, ht _ _, inv_eq, EReal.coe_mul, coe_sum, zero_add]

/-- The row added to every row: a real number plus the last bias, which may be any extended real. -/
theorem cRow_apply (hb : Holds b3 fun _ => β3) {t : FVec Ideal S128x128 .f32} {τ : Fin 128 → Fin 128 → ℝ} (ht : Holds t τ)
    (a : Fin 1) (o : Fin 128) : cRow b3 b5 t (ix2 a o) = (((∑ f, β3 f * τ f o) * (1 / 8191) : ℝ) : EReal) + b5 (ix2 a o) := by
  pointwise [cRow]
  simp only [hb _ _, ht _ _, inv_eq, EReal.coe_mul, coe_sum, zero_add]

/-- The second pass over a block: the rows through the upper weight plus the scaled rows through the lower. -/
theorem product_holds {u w : FVec Ideal S128x128 .f32} {x : FVec Ideal S2048x128 .f32} {d : FVec Ideal S2048x128 .bf16}
    {μ ω : Fin 128 → Fin 128 → ℝ} {ξ δ : Fin 2048 → Fin 128 → ℝ} (hu : Holds u μ) (hw : Holds w ω) (hx : Holds x ξ) (hd : Holds d δ) :
    Holds (product (stacked u w) x d) fun r o => ∑ k, ξ r k * μ k o + ∑ k, δ r k * (ω o k * (-1 / 8191)) := by
  intro r o
  pointwise [product, stacked, beside]
  simp only [hu _ _, hw _ _, hx _ _, hd _ _, neg_inv_eq, EReal.coe_add, EReal.coe_mul, coe_sum, zero_add]

/-- One block of the result, from arguments that hold real numbers: the gathered form of the row's value, plus the last bias. -/
theorem outBlk_apply (hW2 : Holds W2 w2) (hb2 : Holds b2 fun _ => β2) (hW3 : Holds W3 w3) (hb3 : Holds b3 fun _ => β3)
    (hW5 : Holds W5 w5) (hx : ∀ k, Holds (x k) fun r => X (row k r)) (k : Fin 4) (r : Fin 2048) (o : Fin 128) :
    outBlk W2 b2 W3 b3 W5 b5 x k (ix2 r o)
      = ((gathered (1 / 8191) (-(1 / 8191)) X w2 β2 w3 β3 w5 (row k r) o : ℝ) : EReal) + b5 (ix2 0 o) := by
  have ht := mid_holds hW2 hb2 hW5 (crossTotal_holds hW3 hb3 hx) (colTotal_holds hW3 hb3 hx)
  have hp := product_holds (uMat_holds hW3 ht) (w25_holds hW2 hW5) (hx k) (scaled_holds hW3 hb3 (hx k)) r o
  pointwise [outBlk, finish]
  rw [hp, cRow_apply hb3 ht, hx k r o, lengths_holds hW3 hb3 (hx k) r o, c25i_holds hb2 hW5 0 o, ← EReal.coe_mul, ← add_assoc,
    ← EReal.coe_add, sub_eq_add_neg, add_right_comm, ← EReal.coe_neg, ← EReal.coe_add, ← add_assoc, ← EReal.coe_add]
  rw [neg_div, ← sub_eq_add_neg]
  rfl

end Whole

end Cert.KernelIdeal.Hand

end
-- ==== Proof.KernelIdealValue.lean ====
module

public import proofs.«01_k».proof.Proof.KernelIdealLaunch
public import proofs.«01_k».proof.Proof.KernelIdealReals
public import Idealize.ShloMosaic.Lib.Pipeline.ValueKit
public import Idealize.ShloMosaic.Lib.WritesUnit
public import Idealize.ShloMosaic.Lib.Claim

/-!
  What the result array holds when the kernel's program ends, as a function of the argument arrays.
-/

@[expose] public section

set_option maxRecDepth 16384

noncomputable section

namespace Cert.KernelIdeal.Hand

open Cert.KernelIdeal Cert.KernelIdeal.Gen Cert.Reals
open Idealize.ShloMosaic Idealize.ShloMosaic.TcCoe Idealize.SL.Sem

/-- Element `(r, l)` of block `k` sits at row `row k r`. -/
theorem block_apply (f : FVec Ideal S8192x128 .f32) (k : Fin 4) (r : Fin 2048) (l : Fin 128) :
    block f k (ix2 r l) = f (ix2 (row k r) l) := by
  unfold block
  congr 1
  funext a
  apply Fin.ext
  match a with
  | ⟨0, _⟩ => show k.val * 2048 + 1 * r.val = _; simp [row]
  | ⟨1, _⟩ => show 0 + 1 * l.val = _; simp

/-- The blocks of an array that holds real numbers hold them row for row. -/
theorem block_holds {f : FVec Ideal S8192x128 .f32} {X : Fin 8192 → Fin 128 → ℝ} (h : Holds f X) (k : Fin 4) :
    Holds (block f k) fun r => X (row k r) := fun r l => (block_apply f k r l).trans (h _ _)

/-- After the four writes the array reads, at row `row k r`, block `k` at its row `r`. -/
theorem written_apply (fo : aO.view.ty.Contents (Elt Ideal)) (f0 : FVec Ideal S8192x128 .f32) (W2 : FVec Ideal S128x128 .f32)
    (b2 : FVec Ideal S1x128 .f32) (W3 : FVec Ideal S128x128 .f32) (b3 : FVec Ideal S1x128 .f32) (W5 : FVec Ideal S128x128 .f32)
    (b5 : FVec Ideal S1x128 .f32) (k : Fin 4) (r : Fin 2048) (l : Fin 128) :
    aO.view.read (Elt Ideal) (aO.view.writes (Elt Ideal) fo (outPieces f0 W2 b2 W3 b3 W5 b5)) (ix2 (row k r) l)
      = outBlk W2 b2 W3 b3 W5 b5 (block f0) k (ix2 r l) := by
  refine View.read_tilePieces (s := S8192x128) aO.view fo (tsz := S2048x128.size) (off := fun k : Fin 4 => ![k.val * 2048, 0])
    (fun k => by fin_cases k <;> decide) (P := fun k => outBlk W2 b2 W3 b3 W5 b5 (block f0) k) 4 le_rfl (ix2 (row k r) l) k k.isLt (ix2 r l)
    ?_ 0 ?_
  · intro a
    match a with
    | ⟨0, _⟩ => rfl
    | ⟨1, _⟩ => exact (Nat.zero_add _).symm
  · intro k' hk
    have hk' : k'.val ≠ k.val := fun e => hk (Fin.ext e)
    show k.val * 2048 + r.val < k'.val * 2048 ∨ k'.val * 2048 + 2048 ≤ k.val * 2048 + r.val
    omega

variable (m : (ℓ : Loc nD τ sig) → Buf (Elt Ideal) ℓ)

/-- Every window's block index at the one point. -/
theorem index_zero : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The staged block of a 128 by 128 argument or of a one-row argument is the whole array. -/
theorem iblk_whole (c : Dev nD) : iblk m c 0 t₀ = V m c main_arg2 ∧ iblk m c 1 t₀ = V m c main_v0 ∧ iblk m c 2 t₀ = V m c main_arg4
    ∧ iblk m c 3 t₀ = V m c main_v1 ∧ iblk m c 4 t₀ = V m c main_arg6 ∧ iblk m c 5 t₀ = V m c main_v2 := by
  refine ⟨?_, ?_, ?_, ?_, ?_, ?_⟩ <;> blk_ext! [iblk, index_zero t₀]

/-- The host lays each bias out as one row. -/
theorem bias_row (c : Dev nD) (a : Fin 1) (l : Fin 128) :
    (show FVec Ideal S1x128 .f32 from V m c main_v0) (ix2 a l) = (show FVec Ideal S128 .f32 from m ((c : Thread nD τ).loc main_arg3)) (ix1 l)
    ∧ (show FVec Ideal S1x128 .f32 from V m c main_v1) (ix2 a l) = (show FVec Ideal S128 .f32 from m ((c : Thread nD τ).loc main_arg5)) (ix1 l)
    ∧ (show FVec Ideal S1x128 .f32 from V m c main_v2) (ix2 a l) = (show FVec Ideal S128 .f32 from m ((c : Thread nD τ).loc main_arg7)) (ix1 l) := by
  refine ⟨?_, ?_, ?_⟩ <;> (entry_read; pointwise)

/-- The result array, over the arrays themselves in place of their staged blocks. -/
theorem result_eq (c : Dev nD) : result m c = aO.view.writes (Elt Ideal) (V m c main_v3) (outPieces (V m c main_arg0) (V m c main_arg2)
    (V m c main_v0) (V m c main_arg4) (V m c main_v1) (V m c main_arg6) (V m c main_v2)) := by
  obtain ⟨e0, e1, e2, e3, e4, e5⟩ := iblk_whole m c
  unfold result
  rw [e0, e1, e2, e3, e4, e5]

/-- The result array is read whole. -/
theorem read_whole (f : aO.view.ty.Contents (Elt Ideal)) : aO.view.read (Elt Ideal) f = f := rfl

/-- The result array from arguments that hold real numbers: at each row the gathered form of the row's value, plus the last bias. -/
theorem result_apply (c : Dev nD) {w2 w3 w5 : Fin 128 → Fin 128 → ℝ} {β2 β3 : Fin 128 → ℝ} {X : Fin 8192 → Fin 128 → ℝ}
    (hX : Holds (m ((c : Thread nD τ).loc main_arg0)) X) (h2 : Holds (m ((c : Thread nD τ).loc main_arg2)) w2)
    (h3 : Holds (m ((c : Thread nD τ).loc main_arg4)) w3) (h5 : Holds (m ((c : Thread nD τ).loc main_arg6)) w5)
    (hb2 : ∀ l : Fin 128, (show FVec Ideal S128 .f32 from m ((c : Thread nD τ).loc main_arg3)) (ix1 l) = ((β2 l : ℝ) : EReal))
    (hb3 : ∀ l : Fin 128, (show FVec Ideal S128 .f32 from m ((c : Thread nD τ).loc main_arg5)) (ix1 l) = ((β3 l : ℝ) : EReal))
    (i : Fin 8192) (o : Fin 128) :
    (show FVec Ideal S8192x128 .f32 from result m c) (ix2 i o)
      = ((RealEquation.gathered (1 / 8191) (-(1 / 8191)) X w2 β2 w3 β3 w5 i o : ℝ) : EReal)
        + (show FVec Ideal S128 .f32 from m ((c : Thread nD τ).loc main_arg7)) (ix1 o) := by
  obtain ⟨k, r, rfl⟩ : ∃ k r, i = row k r :=
    ⟨⟨i.val / 2048, by omega⟩, ⟨i.val % 2048, by omega⟩, Fin.ext (by simp only [row]; omega)⟩
  rw [result_eq]
  refine (congrFun (read_whole _).symm _).trans ?_
  refine (written_apply _ _ _ _ _ _ _ _ k r o).trans ?_
  refine (outBlk_apply (X := X) (β2 := β2) (β3 := β3) (W2 := V m c main_arg2) (b2 := V m c main_v0) (W3 := V m c main_arg4)
    (b3 := V m c main_v1) (W5 := V m c main_arg6) (b5 := V m c main_v2) (x := block (V m c main_arg0)) h2
    (fun a l => (bias_row m c a l).1.trans (hb2 l)) h3 (fun a l => (bias_row m c a l).2.1.trans (hb3 l)) h5 (block_holds hX) k r o).trans ?_
  exact congrArg _ (bias_row m c 0 o).2.2

end Cert.KernelIdeal.Hand

end
-- ==== Proof.ReferenceIdealValue.lean ====
module

public import proofs.«01_k».proof.Proof.Gen.ReferenceIdeal
public import proofs.«01_k».proof.Proof.Reals
public import proofs.«01_k».proof.Proof.RealEquation
public import Idealize.ShloMosaic.Lib.Pointwise

/-!
  What the reference computes, step by step, and its result when the arguments hold real numbers.
-/

@[expose] public section

set_option maxRecDepth 16384

noncomputable section

namespace Cert.ReferenceIdeal.Hand

open Cert.ReferenceIdeal Cert.ReferenceIdeal.Gen Cert.Reals
open Idealize.ShloMosaic

/-- A bias repeated on every row. -/
def biasRows (b : FVec Ideal S128 .f32) : FVec Ideal S8192x128 .f32 :=
  broadcastInDim S8192x128 ![0, 1] bcast_S1x128_S8192x128_0_1 (broadcastInDim S1x128 ![1] bcast_S128_S1x128_1 b)

/-- A linear layer of the reference: `x · wᵀ + b`. -/
def layer (x : FVec Ideal S8192x128 .f32) (w : FVec Ideal S128x128 .f32) (b : FVec Ideal S128 .f32) : FVec Ideal S8192x128 .f32 :=
  addf (Host.dotGeneral dot_S8192x128_S128x128_S8192x128_1_0_0_1_n_n none x (transpose S128x128 [1, 0] w transposes_S128x128_S128x128_1_0))
    (biasRows b)

/-- The identity matrix, as the reference makes it. -/
def eye : FVec Ideal S8192x8192 .f32 :=
  uitofp .f32 (cmpi .eq (addi (iotaInDim S8192x8192 32 0) (broadcastInDim S8192x8192 ![] bcast_S_S8192x8192 (constantI S_ 32 0#32)))
    (iotaInDim S8192x8192 32 1))

/-- All rows' scalar products, the diagonal set to zero. -/
def weights (h : FVec Ideal S8192x128 .f32) : FVec Ideal S8192x8192 .f32 :=
  mulf (Host.dotGeneral dot_S8192x128_S128x8192_S8192x8192_1_0_0_1_n_n none h (transpose S128x8192 [1, 0] h transposes_S8192x128_S128x8192_1_0))
    (subf (broadcastInDim S8192x8192 ![] bcast_S_S8192x8192 (constant S_ .f32 0x3F800000#32)) eye)

/-- The averaged messages. -/
def messages (a : FVec Ideal S8192x8192 .f32) (g : FVec Ideal S8192x128 .f32) : FVec Ideal S8192x128 .f32 :=
  Host.divf (Host.dotGeneral dot_S8192x8192_S8192x128_S8192x128_1_0_0_1_n_n none a g)
    (broadcastInDim S8192x128 ![] bcast_S_S8192x128 (constant S_ .f32 0x45FFF800#32))

/-- The reference's result. -/
def output (x : FVec Ideal S8192x128 .f32) (W2 : FVec Ideal S128x128 .f32) (b2 : FVec Ideal S128 .f32) (W3 : FVec Ideal S128x128 .f32)
    (b3 : FVec Ideal S128 .f32) (W5 : FVec Ideal S128x128 .f32) (b5 : FVec Ideal S128 .f32) : FVec Ideal S8192x128 .f32 :=
  addf (layer (messages (weights (layer x W3 b3)) (layer x W2 b2)) W5 b5) x

/-- The identity matrix is one on the diagonal and zero off it. -/
theorem eye_holds : Holds eye fun i j => if i = j then 1 else 0 := by
  intro i j
  pointwise [eye]
  have hij : (BitVec.ofNat 32 i.val + 0#32 = BitVec.ofNat 32 j.val) ↔ i = j := by
    rw [BitVec.add_zero, ← BitVec.toNat_inj, BitVec.toNat_ofNat, BitVec.toNat_ofNat, Nat.mod_eq_of_lt (by omega),
      Nat.mod_eq_of_lt (by omega), Fin.ext_iff]
  by_cases h : i = j
  · have e : IntOp.cmpi .eq (IntOp.addi (BitVec.ofNat 32 i.val) 0#32) (BitVec.ofNat 32 j.val) = 1#1 :=
      congrArg BitVec.ofBool (beq_iff_eq.mpr (hij.mpr h))
    rw [e, if_pos h]
    show (((1#1 : BitVec 1).toNat : ℝ) : EReal) = _
    norm_num
  · have e : IntOp.cmpi .eq (IntOp.addi (BitVec.ofNat 32 i.val) 0#32) (BitVec.ofNat 32 j.val) = 0#1 :=
      congrArg BitVec.ofBool (beq_eq_false_iff_ne.mpr (mt hij.mp h))
    rw [e, if_neg h]
    show (((0#1 : BitVec 1).toNat : ℝ) : EReal) = _
    norm_num

section

variable {x : FVec Ideal S8192x128 .f32} {X : Fin 8192 → Fin 128 → ℝ}

/-- A layer's value at an index. -/
theorem layer_apply (x : FVec Ideal S8192x128 .f32) (w : FVec Ideal S128x128 .f32) (b : FVec Ideal S128 .f32) (i : Fin 8192)
    (o : Fin 128) : layer x w b (ix2 i o) = (∑ k, x (ix2 i k) * w (ix2 o k)) + b (ix1 o) := by
  pointwise [layer, biasRows]

/-- A layer with real weights and a real bias. -/
theorem layer_holds {w : FVec Ideal S128x128 .f32} {ω : Fin 128 → Fin 128 → ℝ} {b : FVec Ideal S128 .f32} {β : Fin 128 → ℝ}
    (hx : Holds x X) (hw : Holds w ω) (hb : ∀ l : Fin 128, b (ix1 l) = ((β l : ℝ) : EReal)) :
    Holds (layer x w b) fun i o => ∑ k, X i k * ω o k + β o := by
  intro i o
  rw [layer_apply]
  simp only [hx _ _, hw _ _, hb, EReal.coe_add, EReal.coe_mul, coe_sum]

/-- The scalar products off the diagonal. -/
theorem weights_holds (hx : Holds x X) :
    Holds (weights x) fun i j => (∑ f, X i f * X j f) * (1 - if i = j then 1 else 0) := by
  intro i j
  pointwise [weights]
  simp only [hx _ _, eye_holds _ _, EReal.coe_mul, EReal.coe_sub, EReal.coe_one, coe_sum]

/-- The averaged messages. -/
theorem messages_holds {a : FVec Ideal S8192x8192 .f32} {α : Fin 8192 → Fin 8192 → ℝ} (ha : Holds a α) (hx : Holds x X) :
    Holds (messages a x) fun i l => (∑ j, α i j * X j l) * (1 / 8191) := by
  intro i l
  pointwise [messages]
  rw [ofBits_8191, Ideal.div_coe (by norm_num)]
  simp only [ha _ _, hx _ _, EReal.coe_mul, coe_sum]

end

/-- The reference's result from arguments that hold real numbers: the direct form of the row's value, plus the last bias, which
    may be any extended real. -/
theorem output_apply {x : FVec Ideal S8192x128 .f32} {W2 W3 W5 : FVec Ideal S128x128 .f32} {b2 b3 b5 : FVec Ideal S128 .f32}
    {X : Fin 8192 → Fin 128 → ℝ} {w2 w3 w5 : Fin 128 → Fin 128 → ℝ} {β2 β3 : Fin 128 → ℝ} (hx : Holds x X) (h2 : Holds W2 w2)
    (h3 : Holds W3 w3) (h5 : Holds W5 w5) (hb2 : ∀ l : Fin 128, b2 (ix1 l) = ((β2 l : ℝ) : EReal))
    (hb3 : ∀ l : Fin 128, b3 (ix1 l) = ((β3 l : ℝ) : EReal)) (i : Fin 8192) (o : Fin 128) :
    output x W2 b2 W3 b3 W5 b5 (ix2 i o) = ((RealEquation.direct (1 / 8191) X w2 β2 w3 β3 w5 i o : ℝ) : EReal) + b5 (ix1 o) := by
  have hm := messages_holds (weights_holds (layer_holds hx h3 hb3)) (layer_holds hx h2 hb2)
  pointwise [output]
  rw [layer_apply, add_right_comm]
  simp only [hm _ _, h5 _ _, hx i o, RealEquation.direct, EReal.coe_add, EReal.coe_mul, coe_sum]
  rfl

end Cert.ReferenceIdeal.Hand

end
-- ==== Proof.Finite.lean ====
module

public import proofs.«01_k».proof.Defs
public import proofs.«01_k».proof.Proof.Gen.Pre_finite_args
public import proofs.«01_k».proof.Proof.Reals

/-!
  The precondition read: an array whose absolute values all lie below infinity holds real numbers.
-/

@[expose] public section

set_option maxRecDepth 16384

noncomputable section

namespace Cert.Finite

open Cert.Reals
open Idealize.ShloMosaic Idealize.SL.Sem

/-- A comparison with infinity that comes out true at an index says that the element there is a real number. -/
theorem coe_toReal_of_cmp {s u : Shape} {dims : Fin u.rank → Fin s.rank} (x : FVec Ideal s .f32) (h : u.BroadcastsInDim s dims)
    (e : cmpf .olt (Host.absf x) (broadcastInDim s dims h (constant u .f32 0x7F800000#32)) = fun _ => 1#1) (i : s.Idx) :
    (((x i).toReal : ℝ) : EReal) = x i := by
  have hi := congrFun e i
  have hlt : max (x i) (-(x i)) < Ideal.ofBits .f32 0x7F800000#32 := by
    by_contra hn
    have h0 : cmpf .olt (Host.absf x) (broadcastInDim s dims h (constant u .f32 0x7F800000#32)) i = 0#1 := by
      show BitVec.ofBool (decide (max (x i) (-(x i)) < Ideal.ofBits .f32 0x7F800000#32)) = 0#1
      rw [decide_eq_false hn]; rfl
    rw [h0] at hi
    exact absurd hi (by decide)
  rw [ofBits_top] at hlt
  exact coe_toReal_of_abs_lt hlt

end Cert.Finite

end
-- ==== Proof.Claims.lean ====
module

public import proofs.«01_k».proof.Defs
public import proofs.«01_k».proof.Proof.KernelLaunch
public import proofs.«01_k».proof.Proof.KernelIdealValue
public import proofs.«01_k».proof.Proof.ReferenceIdealValue
public import proofs.«01_k».proof.Proof.Finite
public import Idealize.ShloMosaic.Lib.Claim
public import Idealize.ShloMosaic.Lib.Quiescent

/-!
  The claims, from the two kernel programs' runs, the reference's run and the equation between the results.
-/

@[expose] public section

set_option maxRecDepth 16384

noncomputable section

namespace Cert.Claims

open Cert.Reals
open Idealize.ShloMosaic Idealize.ShloMosaic.TcCoe Idealize.SL.Sem

/-- The kernel ends with its arguments unchanged and every counter at zero. -/
theorem frame_kernel : Cert.quiescent_Kernel := fun m ρ _ => Cert.Kernel.Hand.runs m ρ

/-- So does the kernel over the extended reals. -/
theorem frame_ideal : Cert.quiescent_KernelIdeal := fun m ρ _ =>
  (θ_run Cert.KernelIdeal.defs _ _).mono (fun _ h => h.1) (Cert.KernelIdeal.Hand.runs (F := Ideal) m ρ)

/-- So does the reference. -/
theorem frame_reference : Cert.quiescent_ReferenceIdeal := by
  intro m g _
  refine (θ_run Cert.ReferenceIdeal.defs _ _).mono (fun r h => ⟨h, sem_eq_zero_of_no_sems (by decide) r.2⟩) ?_
  hlo_run

/-- The kernel over the extended reals, from finite arguments. -/
theorem frame_ideal_finite : Cert.quiescent_KernelIdeal_pre_finite_args := fun m ρ _ => frame_ideal m ρ trivial

/-- The reference, from finite arguments. -/
theorem frame_reference_finite : Cert.quiescent_ReferenceIdeal_pre_finite_args := fun m ρ _ => frame_reference m ρ trivial

/-- The two named constants are printed as the words that round them. -/
theorem preserves : Cert.preserves_Kernel_KernelIdeal :=
  ⟨IdealRules.named_const.statement Cert.KernelIdeal.κ "inv" .f32 0x39000400#32 ((1 / 8191 : ℝ) : EReal) rfl,
    IdealRules.named_const.statement Cert.KernelIdeal.κ "neg_inv" .f32 0xB9000400#32 ((-1 / 8191 : ℝ) : EReal) rfl⟩

/-- The reference's output is the kernel's result array. -/
theorem output_eq_result (m : (ℓ : Loc Cert.KernelIdeal.nD Cert.KernelIdeal.τ Cert.KernelIdeal.sig) → Buf (Elt Ideal) ℓ)
    (hpre : Pre_KernelIdeal_finite_args m) (c : Dev Cert.KernelIdeal.nD) :
    Cert.ReferenceIdeal.Hand.output (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
    = Cert.KernelIdeal.Hand.result m c := by
  obtain ⟨p0, p2, p3, p4, p5, p6⟩ := hpre c
  have f0 := Cert.Finite.coe_toReal_of_cmp _ _ p0
  have f2 := Cert.Finite.coe_toReal_of_cmp _ _ p2
  have f3 := Cert.Finite.coe_toReal_of_cmp _ _ p3
  have f4 := Cert.Finite.coe_toReal_of_cmp _ _ p4
  have f5 := Cert.Finite.coe_toReal_of_cmp _ _ p5
  have f6 := Cert.Finite.coe_toReal_of_cmp _ _ p6
  funext j
  obtain ⟨i, o, rfl⟩ : ∃ (i : Fin 8192) (o : Fin 128), j = ix2 i o := ⟨j 0, j 1, eq_ix2 j⟩
  refine (Cert.ReferenceIdeal.Hand.output_apply (fun r l => (f0 (ix2 r l)).symm) (fun r l => (f2 (ix2 r l)).symm)
    (fun r l => (f4 (ix2 r l)).symm) (fun r l => (f6 (ix2 r l)).symm) (fun l => (f3 (ix1 l)).symm) (fun l => (f5 (ix1 l)).symm) i o).trans ?_
  refine Eq.trans ?_ (Cert.KernelIdeal.Hand.result_apply m c (fun r l => (f0 (ix2 r l)).symm) (fun r l => (f2 (ix2 r l)).symm)
    (fun r l => (f4 (ix2 r l)).symm) (fun r l => (f6 (ix2 r l)).symm) (fun l => (f3 (ix1 l)).symm) (fun l => (f5 (ix1 l)).symm) i o).symm
  rw [Cert.RealEquation.gathered_eq_direct]

/-- Kernel and reference compute the same array over the extended reals, from arguments that are finite where that is asked. -/
theorem algebraic : Cert.algebraic_KernelIdeal_ReferenceIdeal_pre_finite_args := by
  intro m g m' g' hpre hagree
  refine ⟨Cert.KernelIdeal.Hand.result m, (θ_run Cert.KernelIdeal.defs _ _).mono (fun _ h c => ⟨h.2 c, h.1.1 c⟩)
    (Cert.KernelIdeal.Hand.runs (F := Ideal) m g), ?_⟩
  hlo_run
  exact output_eq_result m hpre c

end Cert.Claims

end
-- ==== Proof.lean ====
/-
  The certificate's claims put together: the facts the programs state, the three frames (with and without the precondition), the
  named constants, and the equation between the kernel and the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_args
public import proofs.«01_k».proof.Proof.Claims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_finite_args.Gen.facts,
  Cert.Claims.frame_kernel, Cert.Claims.frame_ideal, Cert.Claims.frame_ideal_finite, Cert.Claims.frame_reference,
  Cert.Claims.frame_reference_finite, Cert.Claims.preserves, Cert.Claims.algebraic⟩

end Cert.Proof

end
